-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x4096 : Shape := ⟨3, ![8, 4096, 4096]⟩
abbrev S4096 : Shape := ⟨1, ![4096]⟩
abbrev S512x4096 : Shape := ⟨2, ![512, 4096]⟩
abbrev S512 : Shape := ⟨1, ![512]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x4096 : Shape := ⟨3, ![1, 1, 4096]⟩

class Facts : Prop where
  bitsLt_bf16_f32 : FTy.bits .bf16 < FTy.bits .f32
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x4096_0_1_2 : S8x4096x1.BroadcastsInDim S8x4096x4096 (![0, 1, 2] : Fin 3 → Fin S8x4096x4096.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096 : S_.BroadcastsInDim S8x4096 (![] : Fin 0 → Fin S8x4096.rank)

variable [Facts]

def fn_part1 {F : FTy → Type} [FloatOps F] (main_v16 : FVec F S8x4096 .f32) (main_v18 : IVec S8x4096 1) : IVec S8x4096 1 :=
  let main_cst_4 : FVec F S_ .f32 := constant S_ .f32 0x09800000#32
  let main_v19 : FVec F S8x4096 .f32 := broadcastInDim S8x4096 ![] bcast_S_S8x4096 main_cst_4
  let main_v20 : IVec S8x4096 1 := cmpf .oge main_v16 main_v19
  let main_cst_5 : FVec F S_ .f32 := constant S_ .f32 0x7F000000#32
  let main_v21 : FVec F S8x4096 .f32 := broadcastInDim S8x4096 ![] bcast_S_S8x4096 main_cst_5
  let main_v22 : IVec S8x4096 1 := cmpf .olt main_v16 main_v21
  let main_v23 : IVec S8x4096 1 := andi main_v20 main_v22
  let main_v24 : IVec S8x4096 1 := ori main_v18 main_v23
  main_v24

def fn {F : FTy → Type} [FloatOps F] (main_arg0 : FVec F S8x4096x4096 .bf16) (main_arg1 : FVec F S4096 .bf16) (main_arg2 : FVec F S512x4096 .fp8e4m3) (main_arg3 : FVec F S512 .f32) (main_arg4 : FVec F S512x4096 .fp8e4m3) (main_arg5 : FVec F S512 .f32) (main_arg6 : FVec F S512x4096 .fp8e4m3) (main_arg7 : FVec F S512 .f32) (main_arg8 : FVec F S128 .bf16) (main_arg9 : FVec F S128 .bf16) : IVec S8x4096 1 :=
  let main_v0 : FVec F S8x4096x4096 .f32 := (extf .f32 · bitsLt_bf16_f32) main_arg0
  let main_v1 : FVec F S8x4096x4096 .f32 := mulf main_v0 main_v0
  let main_cst : FVec F S_ .f32 := constant S_ .f32 0x00000000#32
  let main_v2 : FVec F S8x4096 .f32 := (fun x v => Host.reduceAdd x v reducesTo_S8x4096x4096_S8x4096_d2 h_S_) main_v1 main_cst
  let main_v3 : FVec F S8x4096x1 .f32 := broadcastInDim S8x4096x1 ![0, 1] bcast_S8x4096_S8x4096x1_0_1 main_v2
  let main_cst_0 : FVec F S_ .f32 := constant S_ .f32 0x45800000#32
  let main_v4 : FVec F S8x4096x1 .f32 := broadcastInDim S8x4096x1 ![] bcast_S_S8x4096x1 main_cst_0
  let main_v5 : FVec F S8x4096x1 .f32 := Host.divf main_v3 main_v4
  let main_cst_1 : FVec F S_ .f32 := constant S_ .f32 0x358637BD#32
  let main_v6 : FVec F S8x4096x1 .f32 := broadcastInDim S8x4096x1 ![] bcast_S_S8x4096x1 main_cst_1
  let main_v7 : FVec F S8x4096x1 .f32 := addf main_v5 main_v6
  let main_v8 : FVec F S8x4096x1 .f32 := Host.rsqrt main_v7
  let main_v9 : FVec F S8x4096x4096 .f32 := broadcastInDim S8x4096x4096 ![0, 1, 2] bcast_S8x4096x1_S8x4096x4096_0_1_2 main_v8
  let main_v10 : FVec F S8x4096x4096 .f32 := mulf main_v0 main_v9
  let main_v11 : FVec F S4096 .f32 := (extf .f32 · bitsLt_bf16_f32) main_arg1
  let main_v12 : FVec F S1x1x4096 .f32 := broadcastInDim S1x1x4096 ![2] bcast_S4096_S1x1x4096_2 main_v11
  let main_v13 : FVec F S8x4096x4096 .f32 := broadcastInDim S8x4096x4096 ![0, 1, 2] bcast_S1x1x4096_S8x4096x4096_0_1_2 main_v12
  let main_v14 : FVec F S8x4096x4096 .f32 := mulf main_v10 main_v13
  let main_v15 : FVec F S8x4096x4096 .f32 := Host.absf main_v14
  let main_cst_2 : FVec F S_ .f32 := constant S_ .f32 0xFF800000#32
  let main_v16 : FVec F S8x4096 .f32 := (fun x v => Host.reduce FloatOps.maximumf x v reducesTo_S8x4096x4096_S8x4096_d2 h_S_) main_v15 main_cst_2
  let main_cst_3 : FVec F S_ .f32 := constant S_ .f32 0x00000000#32
  let main_v17 : FVec F S8x4096 .f32 := broadcastInDim S8x4096 ![] bcast_S_S8x4096 main_cst_3
  let main_v18 : IVec S8x4096 1 := cmpf .oeq main_v16 main_v17
  fn_part1 (F := F) main_v16 main_v18
-- ==== Kernel.lean ====
abbrev S8x4096x4096 : Shape := ⟨3, ![8, 4096, 4096]⟩
abbrev S4096 : Shape := ⟨1, ![4096]⟩
abbrev S512x4096 : Shape := ⟨2, ![512, 4096]⟩
abbrev S512 : Shape := ⟨1, ![512]⟩
abbrev S128 : Shape := ⟨1, ![128]⟩
abbrev S32768x4096 : Shape := ⟨2, ![32768, 4096]⟩
abbrev S1x4096 : Shape := ⟨2, ![1, 4096]⟩
abbrev S1x512 : Shape := ⟨2, ![1, 512]⟩
abbrev S1x128 : Shape := ⟨2, ![1, 128]⟩
abbrev S32768x4x128 : Shape := ⟨3, ![32768, 4, 128]⟩
abbrev S8x1x4096 : Shape := ⟨3, ![8, 1, 4096]⟩
abbrev S1024x4096 : Shape := ⟨2, ![1024, 4096]⟩
abbrev S1024x4x128 : Shape := ⟨3, ![1024, 4, 128]⟩
abbrev S1x1x1024 : Shape := ⟨3, ![1, 1, 1024]⟩
abbrev S8x128 : Shape := ⟨2, ![8, 128]⟩
abbrev S512x128 : Shape := ⟨2, ![512, 128]⟩
abbrev S32x128 : Shape := ⟨2, ![32, 128]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S128x128 : Shape := ⟨2, ![128, 128]⟩
abbrev S1x1x128 : Shape := ⟨3, ![1, 1, 128]⟩
abbrev S512x512 : Shape := ⟨2, ![512, 512]⟩
abbrev S512x1 : Shape := ⟨2, ![512, 1]⟩
abbrev S1024x2x128 : Shape := ⟨3, ![1024, 2, 128]⟩
abbrev S2048x128 : Shape := ⟨2, ![2048, 128]⟩
abbrev S512x2x128 : Shape := ⟨3, ![512, 2, 128]⟩
abbrev S512x1x128 : Shape := ⟨3, ![512, 1, 128]⟩

abbrev nBuf : Space → Nat
  | .hbm => 22
  | .vmem => 26
  | .smem => 0
  | _ => 0

abbrev bufTy : (tb : Table) → Fin (tcTables nBuf tb) → BufTy
  | .hbm, ⟨0, _⟩ => ⟨S8x4096x4096, .bf16⟩
  | .hbm, ⟨1, _⟩ => ⟨S4096, .bf16⟩
  | .hbm, ⟨2, _⟩ => ⟨S512x4096, .fp8e4m3⟩
  | .hbm, ⟨3, _⟩ => ⟨S512, .f32⟩
  | .hbm, ⟨4, _⟩ => ⟨S512x4096, .fp8e4m3⟩
  | .hbm, ⟨5, _⟩ => ⟨S512, .f32⟩
  | .hbm, ⟨6, _⟩ => ⟨S512x4096, .fp8e4m3⟩
  | .hbm, ⟨7, _⟩ => ⟨S512, .f32⟩
  | .hbm, ⟨8, _⟩ => ⟨S128, .bf16⟩
  | .hbm, ⟨9, _⟩ => ⟨S128, .bf16⟩
  | .hbm, ⟨10, _⟩ => ⟨S32768x4096, .bf16⟩
  | .hbm, ⟨11, _⟩ => ⟨S1x4096, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x128, .bf16⟩
  | .hbm, ⟨16, _⟩ => ⟨S1x128, .bf16⟩
  | .hbm, ⟨17, _⟩ => ⟨S32768x4x128, .bf16⟩
  | .hbm, ⟨18, _⟩ => ⟨S32768x4x128, .bf16⟩
  | .hbm, ⟨19, _⟩ => ⟨S32768x4x128, .bf16⟩
  | .hbm, ⟨20, _⟩ => ⟨S32768x4096, .fp8e4m3⟩
  | .hbm, ⟨21, _⟩ => ⟨S8x1x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096, .bf16⟩
  | .local _ .vmem, ⟨3, _⟩ => ⟨S512x4096, .fp8e4m3⟩
  | .local _ .vmem, ⟨4, _⟩ => ⟨S512x4096, .fp8e4m3⟩
  | .local _ .vmem, ⟨5, _⟩ => ⟨S512x4096, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x128, .bf16⟩
  | .local _ .vmem, ⟨10, _⟩ => ⟨S1x128, .bf16⟩
  | .local _ .vmem, ⟨11, _⟩ => ⟨S1024x4x128, .bf16⟩
  | .local _ .vmem, ⟨12, _⟩ => ⟨S1024x4x128, .bf16⟩
  | .local _ .vmem, ⟨13, _⟩ => ⟨S1024x4x128, .bf16⟩
  | .local _ .vmem, ⟨14, _⟩ => ⟨S1024x4x128, .bf16⟩
  | .local _ .vmem, ⟨15, _⟩ => ⟨S1024x4x128, .bf16⟩
  | .local _ .vmem, ⟨16, _⟩ => ⟨S1024x4x128, .bf16⟩
  | .local _ .vmem, ⟨17, _⟩ => ⟨S1024x4096, .fp8e4m3⟩
  | .local _ .vmem, ⟨18, _⟩ => ⟨S1024x4096, .fp8e4m3⟩
  | .local _ .vmem, ⟨19, _⟩ => ⟨S1x1x1024, .f32⟩
  | .local _ .vmem, ⟨20, _⟩ => ⟨S1x1x1024, .f32⟩
  | .local _ .vmem, ⟨21, _⟩ => ⟨S1x4096, .f32⟩
  | .local _ .vmem, ⟨22, _⟩ => ⟨S512x4096, .f32⟩
  | .local _ .vmem, ⟨23, _⟩ => ⟨S8x128, .f32⟩
  | .local _ .vmem, ⟨24, _⟩ => ⟨S512x128, .f32⟩
  | .local _ .vmem, ⟨25, _⟩ => ⟨S512x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x4x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x4x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x4x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x4096 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F]
-- ==== ReferenceIdeal.lean ====
abbrev S8x4096x4096 : Shape := ⟨3, ![8, 4096, 4096]⟩
abbrev S4096 : Shape := ⟨1, ![4096]⟩
abbrev S512x4096 : Shape := ⟨2, ![512, 4096]⟩
abbrev S512 : Shape := ⟨1, ![512]⟩
abbrev S128 : Shape := ⟨1, ![128]⟩
abbrev S32768x4096 : Shape := ⟨2, ![32768, 4096]⟩
abbrev S1x4096 : Shape := ⟨2, ![1, 4096]⟩
abbrev S1x512 : Shape := ⟨2, ![1, 512]⟩
abbrev S1x1x128 : Shape := ⟨3, ![1, 1, 128]⟩
abbrev S32768x4x128 : Shape := ⟨3, ![32768, 4, 128]⟩
abbrev S8x1x4096 : Shape := ⟨3, ![8, 1, 4096]⟩
abbrev S32768 : Shape := ⟨1, ![32768]⟩
abbrev S32768x1 : Shape := ⟨2, ![32768, 1]⟩
abbrev S32768x512 : Shape := ⟨2, ![32768, 512]⟩
abbrev S32768x4 : Shape := ⟨2, ![32768, 4]⟩
abbrev S32768x4x1 : Shape := ⟨3, ![32768, 4, 1]⟩

abbrev nBuf : Space → Nat
  | .hbm => 22
  | .vmem => 15
  | .smem => 0
  | _ => 0

abbrev bufTy : (tb : Table) → Fin (tcTables nBuf tb) → BufTy
  | .hbm, ⟨0, _⟩ => ⟨S8x4096x4096, .bf16⟩
  | .hbm, ⟨1, _⟩ => ⟨S4096, .bf16⟩
  | .hbm, ⟨2, _⟩ => ⟨S512x4096, .fp8e4m3⟩
  | .hbm, ⟨3, _⟩ => ⟨S512, .f32⟩
  | .hbm, ⟨4, _⟩ => ⟨S512x4096, .fp8e4m3⟩
  | .hbm, ⟨5, _⟩ => ⟨S512, .f32⟩
  | .hbm, ⟨6, _⟩ => ⟨S512x4096, .fp8e4m3⟩
  | .hbm, ⟨7, _⟩ => ⟨S512, .f32⟩
  | .hbm, ⟨8, _⟩ => ⟨S128, .bf16⟩
  | .hbm, ⟨9, _⟩ => ⟨S128, .bf16⟩
  | .hbm, ⟨10, _⟩ => ⟨S32768x4096, .bf16⟩
  | .hbm, ⟨11, _⟩ => ⟨S1x4096, .bf16⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x1x128, .bf16⟩
  | .hbm, ⟨16, _⟩ => ⟨S1x1x128, .bf16⟩
  | .hbm, ⟨17, _⟩ => ⟨S32768x4x128, .bf16⟩
  | .hbm, ⟨18, _⟩ => ⟨S32768x4x128, .bf16⟩
  | .hbm, ⟨19, _⟩ => ⟨S32768x4x128, .bf16⟩
  | .hbm, ⟨20, _⟩ => ⟨S32768x4096, .fp8e4m3⟩
  | .hbm, ⟨21, _⟩ => ⟨S8x1x4096, .f32⟩
  | .local _ .vmem, ⟨0, _⟩ => ⟨S32768x4096, .bf16⟩
  | .local _ .vmem, ⟨1, _⟩ => ⟨S1x4096, .bf16⟩
  | .local _ .vmem, ⟨2, _⟩ => ⟨S512x4096, .fp8e4m3⟩
  | .local _ .vmem, ⟨3, _⟩ => ⟨S1x512, .f32⟩
  | .local _ .vmem, ⟨4, _⟩ => ⟨S512x4096, .fp8e4m3⟩
  | .local _ .vmem, ⟨5, _⟩ => ⟨S1x512, .f32⟩
  | .local _ .vmem, ⟨6, _⟩ => ⟨S512x4096, .fp8e4m3⟩
  | .local _ .vmem, ⟨7, _⟩ => ⟨S1x512, .f32⟩
  | .local _ .vmem, ⟨8, _⟩ => ⟨S1x1x128, .bf16⟩
  | .local _ .vmem, ⟨9, _⟩ => ⟨S1x1x128, .bf16⟩
  | .local _ .vmem, ⟨10, _⟩ => ⟨S32768x4x128, .bf16⟩
  | .local _ .vmem, ⟨11, _⟩ => ⟨S32768x4x128, .bf16⟩
  | .local _ .vmem, ⟨12, _⟩ => ⟨S32768x4x128, .bf16⟩
  | .local _ .vmem, ⟨13, _⟩ => ⟨S32768x4096, .fp8e4m3⟩
  | .local _ .vmem, ⟨14, _⟩ => ⟨S8x1x4096, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S32768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x4x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32768x4x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32768x4x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32768x4096 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.K.Grp.lean ====
module

public import proofs.«01_k».proof.Proof.Gen.KernelIdeal

@[expose] public section

set_option maxRecDepth 16384

noncomputable section

namespace Cert.KernelIdeal.Gen

open Idealize.ShloMosaic Idealize.SL.Sem
open Facts₀ Facts

variable {F : FTy → Type} [FloatOps F]

/-- The type of a piece of the kernel's body. -/
abbrev KProg (F : FTy → Type) [FloatOps F] (α : Type) := Prog (TpuEff nD τ sig (Elt F) Λ₀ .tc) α

/-- A rectangle inside a matrix. -/
theorem inb2 {r c a b R C : Nat} (hr : r + a ≤ R) (hc : c + b ≤ C) :
    ∀ x, (![r, c] : Fin 2 → Nat) x + (![a, b] : Fin 2 → Nat) x ≤ (![R, C] : Fin 2 → Nat) x := by
  intro x; fin_cases x <;> simpa

/-- A chunk lies in the input block. -/
theorem inbX {r c : Nat} (hr : r + 32 ≤ 1024) (hc : c + 256 ≤ 4096) : ∀ a, (![r, c] : Fin 2 → Nat) a + S32x256.size a ≤ S1024x4096.size a := inb2 hr hc
/-- A chunk lies in the gain. -/
theorem inbG {c : Nat} (hc : c + 256 ≤ 4096) : ∀ a, (![0, c] : Fin 2 → Nat) a + S1x256.size a ≤ S1x4096.size a := inb2 (by omega) hc
/-- A chunk lies in the scratch products. -/
theorem inbP {r c : Nat} (hr : r + 32 ≤ 512) (hc : c + 256 ≤ 4096) : ∀ a, (![r, c] : Fin 2 → Nat) a + S32x256.size a ≤ S512x4096.size a := inb2 hr hc
/-- A narrow chunk lies in the scratch products. -/
theorem inbP' {r c : Nat} (hr : r + 32 ≤ 512) (hc : c + 128 ≤ 4096) : ∀ a, (![r, c] : Fin 2 → Nat) a + S32x128.size a ≤ S512x4096.size a := inb2 hr hc
/-- A chunk lies in the codes. -/
theorem inbC {r c : Nat} (hr : r + 32 ≤ 1024) (hc : c + 128 ≤ 4096) : ∀ a, (![r, c] : Fin 2 → Nat) a + S32x128.size a ≤ S1024x4096.size a := inb2 hr hc
/-- A group lies in the row scales. -/
theorem inbH {r : Nat} (hr : r + 32 ≤ 512) : ∀ a, (![r, 0] : Fin 2 → Nat) a + S32x128.size a ≤ S512x128.size a := inb2 hr (by omega)

/-- A chunk of codes fills whole words. -/
theorem packC {r c : Nat} (hr : r + 32 ≤ 1024) (hc : c + 128 ≤ 4096) (h4 : 4 ∣ r) :
    (Rect.unit (s := S1024x4096) ![r, c] S32x128.size (inbC hr hc)).PackedRows (EltTy.packing .fp8e4m3) := by
  have h2 : 2 ≤ S1024x4096.rank := by decide
  exact .inr ⟨h2, rfl, .inl ⟨h4, ⟨8, rfl⟩⟩⟩

/-- What one chunk adds to the running sum of squares. -/
def ssStep (v : FVec F S32x256 .f32) (ss : FVec F S32x128 .f32) : FVec F S32x128 .f32 :=
  addf (addf ss (mulf (extractStridedSlice S32x128 ![0, 0] v slices_S32x256_o0_0_S32x128) (extractStridedSlice S32x128 ![0, 0] v slices_S32x256_o0_0_S32x128)))
    (mulf (extractStridedSlice S32x128 ![0, 128] v slices_S32x256_o0_128_S32x128) (extractStridedSlice S32x128 ![0, 128] v slices_S32x256_o0_128_S32x128))

/-- What one chunk adds to the running maximum of magnitudes. -/
def amStep (p : FVec F S32x256 .f32) (am : FVec F S32x128 .f32) : FVec F S32x128 .f32 :=
  maximumf (maximumf am (absf (extractStridedSlice S32x128 ![0, 0] p slices_S32x256_o0_0_S32x128)))
    (absf (extractStridedSlice S32x128 ![0, 128] p slices_S32x256_o0_128_S32x128))

/-- A chunk of the input as f32. -/
def xOf (v : Vec F S32x256 .bf16) : FVec F S32x256 .f32 := extf .f32 (shapeCast S32x256 v shapeCasts_S32x256_S32x256) bitsLt_bf16_f32
/-- The chunk times the gain. -/
def pOf (v : Vec F S32x256 .bf16) (g : Vec F S1x256 .f32) : FVec F S32x256 .f32 := mulf (xOf v) (broadcastTo S32x256 g broadcasts_S1x256_S32x256)

section
variable (arg1 : Memref sig .tc .vmem S1024x4096 .bf16) (arg16 : Memref sig .tc .vmem S1x4096 .f32)
  (arg17 : Memref sig .tc .vmem S512x4096 .f32) (arg19 : Memref sig .tc .vmem S512x128 .f32)
  (arg14 : Memref sig .tc .vmem S1024x4096 .fp8e4m3) (harg14 : arg14.IsWhole)

/-- One chunk of 256 columns of one group of 32 rows. -/
def statStep (r rp : Nat) (hr : r + 32 ≤ 1024) (hp : rp + 32 ≤ 512) (c : Nat) (hc : c + 256 ≤ 4096)
    (acc : FVec F S32x128 .f32 × FVec F S32x128 .f32) : KProg F (FVec F S32x128 .f32 × FVec F S32x128 .f32) := do
  let v : Vec F S32x256 .bf16 ← Prog.lift (.load arg1 (Rect.unit (s := S1024x4096) ![r, c] S32x256.size (inbX hr hc)).toLoadRect (View.loadsAt_vmem h_S32x256))
  let g : Vec F S1x256 .f32 ← Prog.lift (.load arg16 (Rect.unit (s := S1x4096) ![0, c] S1x256.size (inbG hc)).toLoadRect (View.loadsAt_vmem h_S1x256))
  let d : Vec F S32x256 .f32 ← Prog.lift (.load arg17 (Rect.unit (s := S512x4096) ![rp, c] S32x256.size (inbP hp hc)).toLoadRect (View.loadsAt_vmem h_S32x256))
  Prog.lift (.store arg17 (Rect.unit (s := S512x4096) ![rp, c] S32x256.size (inbP hp hc)) (shapeCast S32x256 (pOf v g) shapeCasts_S32x256_S32x256) Finset.univ (View.stores_vmem_bits_univ h_S32x256 rfl) (.inl rfl))
  pure (ssStep (xOf v) acc.1, amStep (pOf v g) acc.2)

/-- `n` chunks from column `c`. -/
def statLoop (r rp : Nat) (hr : r + 32 ≤ 1024) (hp : rp + 32 ≤ 512) (n : Nat) : (c : Nat) → c + 256 * n ≤ 4096 →
    FVec F S32x128 .f32 × FVec F S32x128 .f32 → KProg F (FVec F S32x128 .f32 × FVec F S32x128 .f32) :=
  Nat.rec (motive := fun n => (c : Nat) → c + 256 * n ≤ 4096 → FVec F S32x128 .f32 × FVec F S32x128 .f32 → KProg F (FVec F S32x128 .f32 × FVec F S32x128 .f32))
    (fun _ _ acc => pure acc)
    (fun n ih c hc acc => do
      let acc' ← statStep arg1 arg16 arg17 r rp hr hp c (by omega) acc
      ih (c + 256) (by omega) acc') n

/-- 1 / rms of the rows. -/
def invOf (ss : FVec F S32x128 .f32) : FVec F S32x1 .f32 :=
  rsqrt (addf (mulf (shapeCast S32x1 (multiReduction .add [1] S32 ss 0x00000000#32 reduces_S32x128_S32 (.inl rfl) rfl) shapeCasts_S32_S32x1)
    (broadcast S32x1 (Scalar.ofBits .f32 0x39800000#32))) (broadcast S32x1 (Scalar.ofBits .f32 0x358637BD#32)))

/-- The rows' largest magnitudes over 448. -/
def tOf (am : FVec F S32x128 .f32) (inv : FVec F S32x1 .f32) : FVec F S32x1 .f32 :=
  mulf (mulf (shapeCast S32x1 (multiReduction .maximumf [1] S32 am 0xFF800000#32 reduces_S32x128_S32 (.inl rfl) rfl) shapeCasts_S32_S32x1) inv)
    (broadcast S32x1 (Scalar.ofBits .f32 0x3B124925#32))

/-- The rows' exponents. -/
def eOf (t : FVec F S32x1 .f32) : IVec S32x1 32 :=
  select (ori (ori (cmpf .oeq t (broadcast S32x1 (Scalar.ofBits .f32 0x00000000#32))) (cmpf .oeq t (broadcast S32x1 (Scalar.ofBits .f32 0x7F800000#32)))) (cmpf .one t t))
    (broadcast S32x1 0#32)
    (subi (shapeCast S32x1 (multiReductionI .add [1] S32 (extui 32 (cmpf .oge (broadcastTo S32x256 t broadcasts_S32x1_S32x256)
      (bitcastToFloat .f32 (shli (iota .tc S32x256 32 [1] iota_S32x256_d1_w32) (broadcast S32x256 23#32)))) natLt_1_32) 0#32 reduces_S32x256_S32 rfl) shapeCasts_S32_S32x1)
      (broadcast S32x1 127#32))

/-- The rows' scales, 2 ^ e. -/
def scOf (e : IVec S32x1 32) : FVec F S32x1 .f32 := bitcastToFloat .f32 (shli (addi e (broadcast S32x1 127#32)) (broadcast S32x1 23#32))
/-- The rows' multipliers. -/
def mOf (inv : FVec F S32x1 .f32) (e : IVec S32x1 32) : FVec F S32x1 .f32 :=
  minimumf (mulf inv (bitcastToFloat .f32 (shli (subi (broadcast S32x1 127#32) e) (broadcast S32x1 23#32)))) (broadcast S32x1 (Scalar.ofBits .f32 0x7F7FFFFF#32))

/-- The codes of a chunk. -/
def codeOf (p : Vec F S32x128 .f32) (s : FVec F S32x128 .f32) : FVec F S32x128 .fp8e4m3 :=
  truncf .fp8e4m3 (minimumf (maximumf (mulf p s) (broadcast S32x128 (Scalar.ofBits .f32 0xC3E00000#32))) (broadcast S32x128 (Scalar.ofBits .f32 0x43E00000#32))) bitsLt_fp8e4m3_f32

/-- One chunk of 128 codes. -/
def codeStep (r rp : Nat) (hr : r + 32 ≤ 1024) (hp : rp + 32 ≤ 512) (h4 : 4 ∣ r) (s : FVec F S32x128 .f32) (c : Nat) (hc : c + 128 ≤ 4096) : KProg F Unit := do
  let p : Vec F S32x128 .f32 ← Prog.lift (.load arg17 (Rect.unit (s := S512x4096) ![rp, c] S32x128.size (inbP' hp hc)).toLoadRect (View.loadsAt_vmem h_S32x128))
  let d : Vec F S32x128 .fp8e4m3 ← Prog.lift (.load arg14 (Rect.unit (s := S1024x4096) ![r, c] S32x128.size (inbC hr hc)).toLoadRect (View.loadsAt_vmem h_S32x128))
  Prog.lift (.store arg14 (Rect.unit (s := S1024x4096) ![r, c] S32x128.size (inbC hr hc)) (codeOf p s) Finset.univ (View.stores_vmem h_S32x128 (harg14.storeExact_slice rfl _ (packC hr hc h4)) (fun _ => rfl)) (.inl rfl))

/-- `n` chunks of codes from column `c`. -/
def codeLoop (r rp : Nat) (hr : r + 32 ≤ 1024) (hp : rp + 32 ≤ 512) (h4 : 4 ∣ r) (s : FVec F S32x128 .f32) (n : Nat) : (c : Nat) → c + 128 * n ≤ 4096 → KProg F Unit :=
  Nat.rec (motive := fun n => (c : Nat) → c + 128 * n ≤ 4096 → KProg F Unit)
    (fun _ _ => pure ⟨⟩)
    (fun n ih c hc => do
      codeStep arg17 arg14 harg14 r rp hr hp h4 s c (by omega)
      ih (c + 128) (by omega)) n

/-- The scales of a group's rows are stored along the lanes. -/
def scaleStep (rp : Nat) (hp : rp + 32 ≤ 512) (s : FVec F S32x1 .f32) : KProg F Unit := do
  let d : Vec F S32x128 .f32 ← Prog.lift (.load arg19 (Rect.unit (s := S512x128) ![rp, 0] S32x128.size (inbH hp)).toLoadRect (View.loadsAt_vmem h_S32x128))
  Prog.lift (.store arg19 (Rect.unit (s := S512x128) ![rp, 0] S32x128.size (inbH hp)) (shapeCast S32x128 (broadcastTo S32x128 (shapeCast S32x1 s shapeCasts_S32x1_S32x1) broadcasts_S32x1_S32x128) shapeCasts_S32x128_S32x128) Finset.univ (View.stores_vmem_bits_univ h_S32x128 rfl) (.inl rfl))

/-- One group of 32 rows. -/
def grp (r rp : Nat) (hr : r + 32 ≤ 1024) (hp : rp + 32 ≤ 512) (h4 : 4 ∣ r) : KProg F Unit := do
  let acc ← statLoop arg1 arg16 arg17 r rp hr hp 16 0 (by omega) (broadcast S32x128 (Scalar.ofBits .f32 0x00000000#32), broadcast S32x128 (Scalar.ofBits .f32 0x00000000#32))
  scaleStep arg19 rp hp (scOf (F := F) (eOf (tOf acc.2 (invOf acc.1))))
  codeLoop arg17 arg14 harg14 r rp hr hp h4 (broadcastTo S32x128 (shapeCast S32x1 (mOf (invOf acc.1) (eOf (tOf acc.2 (invOf acc.1)))) shapeCasts_S32x1_S32x1) broadcasts_S32x1_S32x128) 32 0 (by omega)
end

end Cert.KernelIdeal.Gen
-- ==== Proof.K.Body.lean ====
module

public import proofs.«01_k».proof.Proof.K.Grp

@[expose] public section

set_option maxRecDepth 16384

noncomputable section

namespace Cert.KernelIdeal.Gen

open Idealize.ShloMosaic Idealize.SL.Sem
open Facts₀ Facts

variable {F : FTy → Type} [FloatOps F]

/-- A box inside a rank-three array. -/
theorem inb3 {a b e p q w R C D : Nat} (h1 : a + p ≤ R) (h2 : b + q ≤ C) (h3 : e + w ≤ D) :
    ∀ x, (![a, b, e] : Fin 3 → Nat) x + (![p, q, w] : Fin 3 → Nat) x ≤ (![R, C, D] : Fin 3 → Nat) x := by
  intro x; fin_cases x <;> simpa

/-- 128 rows lie in the row scales. -/
theorem inbHB {r : Nat} (hr : r + 128 ≤ 512) : ∀ a, (![r, 0] : Fin 2 → Nat) a + S128x128.size a ≤ S512x128.size a := inb2 hr (by omega)
/-- 128 columns lie in the scale output. -/
theorem inbSc {c : Nat} (hc : c + 128 ≤ 1024) : ∀ a, (![0, 0, c] : Fin 3 → Nat) a + S1x1x128.size a ≤ S1x1x1024.size a := inb3 (by omega) (by omega) hc
/-- A half lies in the codes. -/
theorem inbCH {r : Nat} (hr : r + 512 ≤ 1024) : ∀ a, (![r, 0] : Fin 2 → Nat) a + S512x4096.size a ≤ S1024x4096.size a := inb2 hr (by omega)
/-- The whole of a weight. -/
theorem inbW : ∀ a, (![0, 0] : Fin 2 → Nat) a + S512x4096.size a ≤ S512x4096.size a := inb2 (by omega) (by omega)
/-- The whole of the row scales. -/
theorem inbHs : ∀ a, (![0, 0] : Fin 2 → Nat) a + S512x128.size a ≤ S512x128.size a := inb2 (by omega) (by omega)
/-- A head's columns lie in the column scales. -/
theorem inbWs {c : Nat} (hc : c + 128 ≤ 512) : ∀ a, (![0, c] : Fin 2 → Nat) a + S1x128.size a ≤ S1x512.size a := inb2 (by omega) hc
/-- The whole of a head's gain. -/
theorem inbNw : ∀ a, (![0, 0] : Fin 2 → Nat) a + S1x128.size a ≤ S1x128.size a := inb2 (by omega) (by omega)
/-- The whole of the gain. -/
theorem inbG1 : ∀ a, (![0, 0] : Fin 2 → Nat) a + S1x4096.size a ≤ S1x4096.size a := inb2 (by omega) (by omega)
/-- A pair of heads lies in the output. -/
theorem inbO {r i : Nat} (hr : r + 512 ≤ 1024) (hi : i + 2 ≤ 4) : ∀ a, (![r, i, 0] : Fin 3 → Nat) a + S512x2x128.size a ≤ S1024x4x128.size a := inb3 hr hi (by omega)

/-- A pair of heads fills whole words. -/
theorem packO {r i : Nat} (hr : r + 512 ≤ 1024) (hi : i + 2 ≤ 4) (h2 : 2 ∣ i) :
    (Rect.unit (s := S1024x4x128) ![r, i, 0] S512x2x128.size (inbO hr hi)).PackedRows (EltTy.packing .bf16) := by
  have h3 : 2 ≤ S1024x4x128.rank := by decide
  exact .inr ⟨h3, rfl, .inl ⟨h2, ⟨1, rfl⟩⟩⟩

/-- The diagonal of a block of scales, as a row. -/
def diagOf (b : Vec F S128x128 .f32) : FVec F S1x1x128 .f32 :=
  shapeCast S1x1x128 (shapeCast S1x128 (multiReduction .add [0] S128 (select (cmpi .eq (iota .tc S128x128 32 [0] iota_S128x128_d0_w32) (iota .tc S128x128 32 [1] iota_S128x128_d1_w32)) b
    (broadcast S128x128 (Scalar.ofBits .f32 0x00000000#32) : FVec F S128x128 .f32)) 0x00000000#32 reduces_S128x128_S128 (.inl rfl) rfl) shapeCasts_S128_S1x128) shapeCasts_S1x128_S1x1x128

/-- The products of a half's codes with a weight matrix. -/
def accOf (a : Vec F S512x4096 .fp8e4m3) (w : Vec F S512x4096 .fp8e4m3) : FVec F S512x512 .f32 :=
  matmul dot_S512x4096_S512x4096_S512x512_1_1_0_0_n_n none (shapeCast S512x4096 a shapeCasts_S512x4096_S512x4096) w (constant S512x512 .f32 0x00000000#32)

/-- One head of a projection. -/
def headY (acc : FVec F S512x512 .f32) (hs : Vec F S512x128 .f32) (ws : Vec F S1x128 .f32) (c : Nat) (hsl : S512x512.Slices ![0, c] S512x128) : FVec F S512x128 .f32 :=
  mulf (mulf (extractStridedSlice S512x128 ![0, c] acc hsl) hs) (broadcastTo S512x128 (shapeCast S1x128 ws shapeCasts_S1x128_S1x128) broadcasts_S1x128_S512x128)

/-- One normalised head of a projection. -/
def headN (y : FVec F S512x128 .f32) (nw : Vec F S1x128 .bf16) : FVec F S512x128 .f32 :=
  mulf (mulf y (broadcastTo S512x128 (rsqrt (addf (divf (shapeCast S512x1 (multiReduction .add [1] S512 (mulf y y) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (extf .f32 (shapeCast S1x128 nw shapeCasts_S1x128_S1x128) bitsLt_bf16_f32) broadcasts_S1x128_S512x128)

/-- Two heads, rounded and interleaved. -/
def pairOf (lo hi : FVec F S512x128 .f32) : Vec F S512x2x128 .bf16 :=
  interleaveRows S512x2x128 (shapeCast S512x1x128 (truncf .bf16 lo bitsLt_bf16_f32) shapeCasts_S512x128_S512x1x128) (shapeCast S512x1x128 (truncf .bf16 hi bitsLt_bf16_f32) shapeCasts_S512x128_S512x1x128) bitcasts_S512x2x128_w16_S512x1x128_w32

section
variable (arg1 : Memref sig .tc .vmem S1024x4096 .bf16) (arg16 : Memref sig .tc .vmem S1x4096 .f32)
  (arg17 : Memref sig .tc .vmem S512x4096 .f32) (arg19 : Memref sig .tc .vmem S512x128 .f32)
  (arg14 : Memref sig .tc .vmem S1024x4096 .fp8e4m3) (harg14 : arg14.IsWhole) (arg15 : Memref sig .tc .vmem S1x1x1024 .f32)

/-- `n` groups from the row `rp` of the half at `base`. -/
def grpLoop (base : Nat) (hb : base + 512 ≤ 1024) (h4 : 4 ∣ base) (n : Nat) : (rp : Nat) → rp + 32 * n ≤ 512 → 4 ∣ rp → KProg F Unit :=
  Nat.rec (motive := fun n => (rp : Nat) → rp + 32 * n ≤ 512 → 4 ∣ rp → KProg F Unit)
    (fun _ _ _ => pure ⟨⟩)
    (fun n ih rp hp hd => do
      grp arg1 arg16 arg17 arg19 arg14 harg14 (base + rp) rp (by omega) (by omega) (by omega)
      ih (rp + 32) (by omega) (by omega)) n

/-- One block of 128 scales of the half at `base` is stored as a row. -/
def diagStep (base b : Nat) (hb : base + 512 ≤ 1024) (h : b + 128 ≤ 512) : KProg F Unit := do
  let blk : Vec F S128x128 .f32 ← Prog.lift (.load arg19 (Rect.unit (s := S512x128) ![b, 0] S128x128.size (inbHB h)).toLoadRect (View.loadsAt_vmem h_S128x128))
  let d : Vec F S1x1x128 .f32 ← Prog.lift (.load arg15 (Rect.unit (s := S1x1x1024) ![0, 0, base + b] S1x1x128.size (inbSc (by omega))).toLoadRect (View.loadsAt_vmem h_S1x1x128))
  Prog.lift (.store arg15 (Rect.unit (s := S1x1x1024) ![0, 0, base + b] S1x1x128.size (inbSc (by omega))) (diagOf blk) Finset.univ (View.stores_vmem_bits_univ h_S1x1x128 rfl) (.inl rfl))

/-- The stores of the scales, 128 rows at a time. -/
def diagLoop (base : Nat) (hb : base + 512 ≤ 1024) (n : Nat) : (b : Nat) → b + 128 * n ≤ 512 → KProg F Unit :=
  Nat.rec (motive := fun n => (b : Nat) → b + 128 * n ≤ 512 → KProg F Unit)
    (fun _ _ => pure ⟨⟩)
    (fun n ih b h => do
      diagStep arg19 arg15 base b hb (by omega)
      ih (b + 128) (by omega)) n

variable (w : Memref sig .tc .vmem S512x4096 .fp8e4m3) (s : Memref sig .tc .vmem S1x512 .f32) (nw : Memref sig .tc .vmem S1x128 .bf16)
  (o : Memref sig .tc .vmem S1024x4x128 .bf16) (ho : o.IsWhole)

/-- A pair of heads is stored. -/
def pairStep (base i : Nat) (hb : base + 512 ≤ 1024) (hi : i + 2 ≤ 4) (h2 : 2 ∣ i) (lo hi' : FVec F S512x128 .f32) : KProg F Unit := do
  let d : Vec F S512x2x128 .bf16 ← Prog.lift (.load o (Rect.unit (s := S1024x4x128) ![base, i, 0] S512x2x128.size (inbO hb hi)).toLoadRect (View.loadsAt_vmem h_S512x2x128))
  Prog.lift (.store o (Rect.unit (s := S1024x4x128) ![base, i, 0] S512x2x128.size (inbO hb hi)) (pairOf lo hi') Finset.univ (View.stores_vmem h_S512x2x128 (ho.storeExact_slice rfl _ (packO hb hi h2)) (fun _ => rfl)) (.inl rfl))

/-- One head. -/
def headStep (acc : FVec F S512x512 .f32) (hs : Vec F S512x128 .f32) (c : Nat) (hc : c + 128 ≤ 512) (hsl : S512x512.Slices ![0, c] S512x128) : KProg F (FVec F S512x128 .f32) := do
  let v : Vec F S1x128 .f32 ← Prog.lift (.load s (Rect.unit (s := S1x512) ![0, c] S1x128.size (inbWs hc)).toLoadRect (View.loadsAt_vmem h_S1x128))
  pure (headY acc hs v c hsl)

/-- One normalised head. -/
def headNStep (acc : FVec F S512x512 .f32) (hs : Vec F S512x128 .f32) (c : Nat) (hc : c + 128 ≤ 512) (hsl : S512x512.Slices ![0, c] S512x128) : KProg F (FVec F S512x128 .f32) := do
  let v : Vec F S1x128 .f32 ← Prog.lift (.load s (Rect.unit (s := S1x512) ![0, c] S1x128.size (inbWs hc)).toLoadRect (View.loadsAt_vmem h_S1x128))
  let u : Vec F S1x128 .bf16 ← Prog.lift (.load nw (Rect.unit (s := S1x128) ![0, 0] S1x128.size inbNw).toLoadRect (View.loadsAt_vmem h_S1x128))
  pure (headN (headY acc hs v c hsl) u)

/-- The products and the scales of the half at `base`. -/
def prodStep (base : Nat) (hb : base + 512 ≤ 1024) : KProg F (FVec F S512x512 .f32 × Vec F S512x128 .f32) := do
  let a : Vec F S512x4096 .fp8e4m3 ← Prog.lift (.load arg14 (Rect.unit (s := S1024x4096) ![base, 0] S512x4096.size (inbCH hb)).toLoadRect (View.loadsAt_vmem h_S512x4096))
  let b : Vec F S512x4096 .fp8e4m3 ← Prog.lift (.load w (Rect.unit (s := S512x4096) ![0, 0] S512x4096.size inbW).toLoadRect (View.loadsAt_vmem h_S512x4096))
  let hs : Vec F S512x128 .f32 ← Prog.lift (.load arg19 (Rect.unit (s := S512x128) ![0, 0] S512x128.size inbHs).toLoadRect (View.loadsAt_vmem h_S512x128))
  pure (accOf a b, hs)

/-- A normalised projection of the half at `base`. -/
def projN (base : Nat) (hb : base + 512 ≤ 1024) : KProg F Unit := do
  let p ← prodStep arg19 arg14 w base hb
  let y0 ← headNStep s nw p.1 p.2 0 (by omega) slices_S512x512_o0_0_S512x128
  let y1 ← headNStep s nw p.1 p.2 128 (by omega) slices_S512x512_o0_128_S512x128
  pairStep o ho base 0 hb (by omega) (by omega) y0 y1
  let y2 ← headNStep s nw p.1 p.2 256 (by omega) slices_S512x512_o0_256_S512x128
  let y3 ← headNStep s nw p.1 p.2 384 (by omega) slices_S512x512_o0_384_S512x128
  pairStep o ho base 2 hb (by omega) (by omega) y2 y3

/-- A projection of the half at `base`. -/
def projV (base : Nat) (hb : base + 512 ≤ 1024) : KProg F Unit := do
  let p ← prodStep arg19 arg14 w base hb
  let y0 ← headStep s p.1 p.2 0 (by omega) slices_S512x512_o0_0_S512x128
  let y1 ← headStep s p.1 p.2 128 (by omega) slices_S512x512_o0_128_S512x128
  pairStep o ho base 0 hb (by omega) (by omega) y0 y1
  let y2 ← headStep s p.1 p.2 256 (by omega) slices_S512x512_o0_256_S512x128
  let y3 ← headStep s p.1 p.2 384 (by omega) slices_S512x512_o0_384_S512x128
  pairStep o ho base 2 hb (by omega) (by omega) y2 y3
end

section
variable (arg1 : Memref sig .tc .vmem S1024x4096 .bf16) (arg2 : Memref sig .tc .vmem S1x4096 .bf16)
  (arg3 arg4 arg5 : Memref sig .tc .vmem S512x4096 .fp8e4m3) (arg6 arg7 arg8 : Memref sig .tc .vmem S1x512 .f32) (arg9 arg10 : Memref sig .tc .vmem S1x128 .bf16)
  (arg11 : Memref sig .tc .vmem S1024x4x128 .bf16) (harg11 : arg11.IsWhole) (arg12 : Memref sig .tc .vmem S1024x4x128 .bf16) (harg12 : arg12.IsWhole)
  (arg13 : Memref sig .tc .vmem S1024x4x128 .bf16) (harg13 : arg13.IsWhole)
  (arg14 : Memref sig .tc .vmem S1024x4096 .fp8e4m3) (harg14 : arg14.IsWhole) (arg15 : Memref sig .tc .vmem S1x1x1024 .f32)
  (arg16 : Memref sig .tc .vmem S1x4096 .f32) (arg17 : Memref sig .tc .vmem S512x4096 .f32) (arg19 : Memref sig .tc .vmem S512x128 .f32)

/-- The half of the rows at `base`. -/
def half (base : Nat) (hb : base + 512 ≤ 1024) (h4 : 4 ∣ base) : KProg F Unit := do
  grpLoop arg1 arg16 arg17 arg19 arg14 harg14 base hb h4 16 0 (by omega) (by omega)
  diagLoop arg19 arg15 base hb 4 0 (by omega)
  projN arg19 arg14 arg3 arg6 arg9 arg11 harg11 base hb
  projN arg19 arg14 arg4 arg7 arg10 arg12 harg12 base hb
  projV arg19 arg14 arg5 arg8 arg13 harg13 base hb

/-- The gain is widened into the scratch. -/
def gain : KProg F Unit := do
  let v : Vec F S1x4096 .bf16 ← Prog.lift (.load arg2 (Rect.unit (s := S1x4096) ![0, 0] S1x4096.size inbG1).toLoadRect (View.loadsAt_vmem h_S1x4096))
  let d : Vec F S1x4096 .f32 ← Prog.lift (.load arg16 (Rect.unit (s := S1x4096) ![0, 0] S1x4096.size inbG1).toLoadRect (View.loadsAt_vmem h_S1x4096))
  Prog.lift (.store arg16 (Rect.unit (s := S1x4096) ![0, 0] S1x4096.size inbG1) (shapeCast S1x4096 (extf .f32 (shapeCast S1x4096 v shapeCasts_S1x4096_S1x4096) bitsLt_bf16_f32) shapeCasts_S1x4096_S1x4096) Finset.univ (View.stores_vmem_bits_univ h_S1x4096 rfl) (.inl rfl))
  pure ⟨⟩

/-- At the first grid point the gain is widened into the scratch. -/
def prologue (i : grid0.Coords) : KProg F Unit :=
  if h : Scalar.cmpi .ne (Scalar.extui (Scalar.cmpi .eq (BitVec.ofNat 32 (i 0).val) 0#32) : BitVec 32) 0#32 = 1#1 then gain arg2 arg16 else pure ⟨⟩

/-- Both halves. -/
def halves : KProg F Unit := do
  half arg1 arg3 arg4 arg5 arg6 arg7 arg8 arg9 arg10 arg11 harg11 arg12 harg12 arg13 harg13 arg14 harg14 arg15 arg16 arg17 arg19 0 (by omega) (by omega)
  half arg1 arg3 arg4 arg5 arg6 arg7 arg8 arg9 arg10 arg11 harg11 arg12 harg12 arg13 harg13 arg14 harg14 arg15 arg16 arg17 arg19 512 (by omega) (by omega)
end

end Cert.KernelIdeal.Gen
-- ==== Proof.K.Bridge0.lean ====
module

public import proofs.«01_k».proof.Proof.K.Body
public import Idealize.ShloMosaic.Lib.Tactic

@[expose] public section

set_option maxRecDepth 1000000
set_option maxHeartbeats 0

noncomputable section

namespace Cert.KernelIdeal.Gen

open Idealize.ShloMosaic Idealize.SL.Sem
open Facts₀ Facts Idealize.ShloMosaic.Tactic

variable {F : FTy → Type} [FloatOps F]

variable (arg1 : Memref sig .tc .vmem S1024x4096 .bf16) (harg1 : arg1.IsWhole) (arg2 : Memref sig .tc .vmem S1x4096 .bf16) (harg2 : arg2.IsWhole) (arg3 : Memref sig .tc .vmem S512x4096 .fp8e4m3) (harg3 : arg3.IsWhole) (arg4 : Memref sig .tc .vmem S512x4096 .fp8e4m3) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .bf16) (harg9 : arg9.IsWhole) (arg10 : Memref sig .tc .vmem S1x128 .bf16) (harg10 : arg10.IsWhole) (arg11 : Memref sig .tc .vmem S1024x4x128 .bf16) (harg11 : arg11.IsWhole) (arg12 : Memref sig .tc .vmem S1024x4x128 .bf16) (harg12 : arg12.IsWhole) (arg13 : Memref sig .tc .vmem S1024x4x128 .bf16) (harg13 : arg13.IsWhole) (arg14 : Memref sig .tc .vmem S1024x4096 .fp8e4m3) (harg14 : arg14.IsWhole) (arg15 : Memref sig .tc .vmem S1x1x1024 .f32) (harg15 : arg15.IsWhole) (arg16 : Memref sig .tc .vmem S1x4096 .f32) (harg16 : arg16.IsWhole) (arg17 : Memref sig .tc .vmem S512x4096 .f32) (harg17 : arg17.IsWhole) (arg18 : Memref sig .tc .vmem S8x128 .f32) (harg18 : arg18.IsWhole) (arg19 : Memref sig .tc .vmem S512x128 .f32) (harg19 : arg19.IsWhole) (arg20 : Memref sig .tc .vmem S512x128 .f32) (harg20 : arg20.IsWhole)

/-- A grid point other than the first. -/
def one : grid0.Coords := fun a => ⟨1, by revert a; decide⟩

/-- The body runs the prologue at this point. -/
abbrev AtFirst (i : grid0.Coords) : Prop := Scalar.cmpi .ne (Scalar.extui (Scalar.cmpi .eq (BitVec.ofNat 32 (i 0).val) 0#32) : BitVec 32) 0#32 = 1#1

/-- The second point is not the first. -/
theorem not_atFirst_one : ¬ AtFirst one := by decide

/-- At the first point the gain is widened. -/
theorem part1_pos (i : grid0.Coords) (h : AtFirst i) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (gain arg2 arg16 >>= fun _ => k0_part1 (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  generalize hQ : k0_part1 (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = Q
  unfold k0_part1 at hQ ⊢
  replace hQ := hQ.symm.trans (dif_neg not_atFirst_one)
  refine (dif_pos h).trans ?_
  subst hQ
  sl_kernel_rfl

/-- At the other points nothing is done first. -/
theorem part1_neg (i : grid0.Coords) (h : ¬ AtFirst i) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = k0_part1 (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 := by
  generalize hQ : k0_part1 (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = Q
  unfold k0_part1 at hQ ⊢
  replace hQ := hQ.symm.trans (dif_neg not_atFirst_one)
  refine (dif_neg h).trans ?_
  subst hQ
  sl_kernel_rfl

/-- The first window of the body is the prologue and the same window at a later point. -/
theorem part1_eq (i : grid0.Coords) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (prologue arg2 arg16 i >>= fun _ => k0_part1 (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold prologue
  by_cases h : AtFirst i
  · rw [dif_pos h]
    exact part1_pos arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 i h
  · rw [dif_neg h]
    exact part1_neg arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 i h
end Cert.KernelIdeal.Gen
-- ==== Proof.K.Bridge1.lean ====
module

public import proofs.«01_k».proof.Proof.K.Bridge0
public import Idealize.ShloMosaic.Lib.Tactic

@[expose] public section

set_option maxRecDepth 1000000
set_option maxHeartbeats 0

noncomputable section

namespace Cert.KernelIdeal.Gen

open Idealize.ShloMosaic Idealize.SL.Sem
open Facts₀ Facts Idealize.ShloMosaic.Tactic

variable {F : FTy → Type} [FloatOps F]

variable (arg1 : Memref sig .tc .vmem S1024x4096 .bf16) (harg1 : arg1.IsWhole) (arg2 : Memref sig .tc .vmem S1x4096 .bf16) (harg2 : arg2.IsWhole) (arg3 : Memref sig .tc .vmem S512x4096 .fp8e4m3) (harg3 : arg3.IsWhole) (arg4 : Memref sig .tc .vmem S512x4096 .fp8e4m3) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .bf16) (harg9 : arg9.IsWhole) (arg10 : Memref sig .tc .vmem S1x128 .bf16) (harg10 : arg10.IsWhole) (arg11 : Memref sig .tc .vmem S1024x4x128 .bf16) (harg11 : arg11.IsWhole) (arg12 : Memref sig .tc .vmem S1024x4x128 .bf16) (harg12 : arg12.IsWhole) (arg13 : Memref sig .tc .vmem S1024x4x128 .bf16) (harg13 : arg13.IsWhole) (arg14 : Memref sig .tc .vmem S1024x4096 .fp8e4m3) (harg14 : arg14.IsWhole) (arg15 : Memref sig .tc .vmem S1x1x1024 .f32) (harg15 : arg15.IsWhole) (arg16 : Memref sig .tc .vmem S1x4096 .f32) (harg16 : arg16.IsWhole) (arg17 : Memref sig .tc .vmem S512x4096 .f32) (harg17 : arg17.IsWhole) (arg18 : Memref sig .tc .vmem S8x128 .f32) (harg18 : arg18.IsWhole) (arg19 : Memref sig .tc .vmem S512x128 .f32) (harg19 : arg19.IsWhole) (arg20 : Memref sig .tc .vmem S512x128 .f32) (harg20 : arg20.IsWhole)

/-- The printed body at a later point, as its two halves. -/
theorem cc0_one : cc0_rmsnorm_fp8_qkv (F := F) one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = halves (F := F) arg1 arg3 arg4 arg5 arg6 arg7 arg8 arg9 arg10 arg11 harg11 arg12 harg12 arg13 harg13 arg14 harg14 arg15 arg16 arg17 arg19 := by
  sl_kernel_rfl

/-- The printed body is the prologue and the two halves. -/
theorem cc0_eq (i : grid0.Coords) : cc0_rmsnorm_fp8_qkv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    = (prologue arg2 arg16 i >>= fun _ => halves (F := F) arg1 arg3 arg4 arg5 arg6 arg7 arg8 arg9 arg10 arg11 harg11 arg12 harg12 arg13 harg13 arg14 harg14 arg15 arg16 arg17 arg19) := by
  rw [← cc0_one arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20]
  unfold cc0_rmsnorm_fp8_qkv k0_part550
  rw [part1_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 i, bind_assoc, bind_assoc]
  refine congrArg (Bind.bind _) (funext fun _ => ?_)
  sl_kernel_rfl
end Cert.KernelIdeal.Gen
-- ==== Proof.K.Spec.lean ====
module

public import proofs.«01_k».proof.Proof.K.Grp

@[expose] public section

set_option maxRecDepth 16384

noncomputable section

namespace Cert.KernelIdeal.Gen

open Idealize.ShloMosaic Idealize.SL.Sem
open Facts₀ Facts

variable {F : FTy → Type} [FloatOps F]

/-- The index of a matrix at row `r` and column `c`, both reduced into range. -/
def ix2 {R C : Nat} (hR : 0 < R) (hC : 0 < C) (r c : Nat) : (⟨2, ![R, C]⟩ : Shape).Idx :=
  fun a => ⟨(![r, c] : Fin 2 → Nat) a % (![R, C] : Fin 2 → Nat) a, Nat.mod_lt _ (by fin_cases a <;> assumption)⟩

/-- Such an index is `y` when its coordinates are. -/
theorem ix2_eq {R C : Nat} (hR : 0 < R) (hC : 0 < C) (y : (⟨2, ![R, C]⟩ : Shape).Idx) (r c : Nat) (h0 : (y 0).val = r) (h1 : (y 1).val = c) :
    ix2 hR hC r c = y := by
  funext a
  apply Fin.ext
  fin_cases a
  · show r % R = (y 0).val
    rw [← h0]; exact Nat.mod_eq_of_lt (y 0).isLt
  · show c % C = (y 1).val
    rw [← h1]; exact Nat.mod_eq_of_lt (y 1).isLt

/-- Its row. -/
theorem ix2_val0 {R C : Nat} (hR : 0 < R) (hC : 0 < C) (r c : Nat) (h : r < R) : (ix2 hR hC r c 0).val = r := Nat.mod_eq_of_lt h
/-- Its column. -/
theorem ix2_val1 {R C : Nat} (hR : 0 < R) (hC : 0 < C) (r c : Nat) (h : c < C) : (ix2 hR hC r c 1).val = c := Nat.mod_eq_of_lt h

/-- The window of a matrix at row `r`, column `c`. -/
def win {α : Type} {R C : Nat} (hR : 0 < R) (hC : 0 < C) (a b : Nat) (x : (⟨2, ![R, C]⟩ : Shape).Idx → α) (r c : Nat) : (⟨2, ![a, b]⟩ : Shape).Idx → α :=
  fun y => x (ix2 hR hC (r + (y 0).val) (c + (y 1).val))

variable (x : Vec F S1024x4096 .bf16) (g : Vec F S1x4096 .f32)

/-- A 32 x 256 window of the input. -/
def xw (r c : Nat) : Vec F S32x256 .bf16 := win (R := 1024) (C := 4096) (by decide) (by decide) 32 256 x r c
/-- A window of the gain. -/
def gw (c : Nat) : Vec F S1x256 .f32 := win (R := 1) (C := 4096) (by decide) (by decide) 1 256 g 0 c

/-- The running sums of squares and magnitudes of the rows from `r` after `k` chunks. -/
def accAt (r : Nat) : Nat → FVec F S32x128 .f32 × FVec F S32x128 .f32
  | 0 => (broadcast S32x128 (Scalar.ofBits .f32 0x00000000#32), broadcast S32x128 (Scalar.ofBits .f32 0x00000000#32))
  | k + 1 => (ssStep (xOf (xw x r (256 * k))) (accAt r k).1, amStep (pOf (xw x r (256 * k)) (gw g (256 * k))) (accAt r k).2)

/-- The input times the gain. -/
def pE (a : F .bf16) (b : F .f32) : F .f32 := FloatOps.mulf (FloatOps.extf .f32 bitsLt_bf16_f32 a) b
/-- One code from the scaled row's element and the row's multiplier. -/
def codeE (p s : F .f32) : F .fp8e4m3 := codeOf (fun _ => p) (fun _ => s) (fun a => ⟨0, by fin_cases a <;> decide⟩)

/-- The products of input and gain. -/
def pAt (r c : Nat) : F .f32 := pE (x (ix2 (R := 1024) (C := 4096) (by decide) (by decide) r c)) (g (ix2 (R := 1) (C := 4096) (by decide) (by decide) 0 c))

/-- The rows' reciprocal root mean squares, exponents, scales, multipliers; `r` is the first row of the group. -/
def invV (r : Nat) : FVec F S32x1 .f32 := invOf (accAt x g r 16).1
/-- The exponents of a group. -/
def eV (r : Nat) : IVec S32x1 32 := eOf (tOf (accAt x g r 16).2 (invV x g r))
/-- The scales of a group. -/
def scV (r : Nat) : FVec F S32x1 .f32 := scOf (eV x g r)
/-- The multipliers of a group. -/
def mV (r : Nat) : FVec F S32x1 .f32 := mOf (invV x g r) (eV x g r)

/-- A row's index in a group. -/
def ix1 (r : Nat) : S32x1.Idx := ix2 (R := 32) (C := 1) (by decide) (by decide) r 0

/-- The scale of row `R`. -/
def scAt (R : Nat) : F .f32 := scV x g (32 * (R / 32)) (ix1 (R % 32))
/-- The multiplier of row `R`. -/
def mAt (R : Nat) : F .f32 := mV x g (32 * (R / 32)) (ix1 (R % 32))
/-- The code at row `R`, column `c`. -/
def codeAt (R c : Nat) : F .fp8e4m3 := codeE (pAt x g R c) (mAt x g R)

end Cert.KernelIdeal.Gen
-- ==== Proof.K.Trip.lean ====
module

public import proofs.«01_k».proof.Proof.K.Spec
public import Idealize.ShloMosaic.Lib.Exec
public import Idealize.ShloMosaic.Lib.Tactic
public import Idealize.ShloMosaic.Lib.Pointwise
public import Idealize.ShloMosaic.Lib.WritesUnit
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The core holds the buffer `a` views at the contents `f`. -/
abbrev pt (c : Dev nD) {S : Shape} {e : EltTy} (a : Memref sig .tc .vmem S e) (f : BufTy.Contents (Elt F) a.view.ty) : sProp 𝕄G :=
  a.view.loc (c : Thread nD τ) ↦[a.view.set]{fullShare} f

variable (𝒱 : Variants) (c : Dev nD) (bd : Option 𝒱.V) (E : Set ℕ)
variable (arg1 : Memref sig .tc .vmem S1024x4096 .bf16) (arg16 : Memref sig .tc .vmem S1x4096 .f32)
  (arg17 : Memref sig .tc .vmem S512x4096 .f32) (arg19 : Memref sig .tc .vmem S512x128 .f32)
  (arg14 : Memref sig .tc .vmem S1024x4096 .fp8e4m3) (harg14 : arg14.IsWhole)

variable (x : Vec F S1024x4096 .bf16) (g : Vec F S1x4096 .f32)
variable (X : BufTy.Contents (Elt F) arg1.view.ty) (G : BufTy.Contents (Elt F) arg16.view.ty)

/-- A read of a chunk of the input. -/
theorem readX {r cc : Nat} (hr : r + 32 ≤ 1024) (hc : cc + 256 ≤ 4096) (hX : arg1.view.read (Elt F) X = x) :
    arg1.view.readAt (Elt F) (Rect.unit (s := S1024x4096) ![r, cc] S32x256.size (inbX hr hc)).toLoadRect X = xw x r cc := by
  subst hX
  funext y
  have hy0 : (y 0).val < 32 := (y 0).isLt
  have hy1 : (y 1).val < 256 := (y 1).isLt
  show arg1.view.read (Elt F) X _ = arg1.view.read (Elt F) X _
  congr 1
  symm
  refine ix2_eq _ _ _ _ _ ?_ ?_
  · show r + 1 * (y 0).val = _; omega
  · show cc + 1 * (y 1).val = _; omega

/-- A read of a chunk of the gain. -/
theorem readG {cc : Nat} (hc : cc + 256 ≤ 4096) (hG : arg16.view.read (Elt F) G = g) :
    arg16.view.readAt (Elt F) (Rect.unit (s := S1x4096) ![0, cc] S1x256.size (inbG hc)).toLoadRect G = gw g cc := by
  subst hG
  funext y
  show arg16.view.read (Elt F) G _ = arg16.view.read (Elt F) G _
  congr 1
  symm
  refine ix2_eq _ _ _ _ _ ?_ ?_
  · show 0 + 1 * (y 0).val = _; omega
  · show cc + 1 * (y 1).val = _; omega

/-- The products of a window. -/
theorem pOf_win (r cc : Nat) (y : S32x256.Idx) : pOf (xw x r cc) (gw g cc) y = pAt x g (r + (y 0).val) (cc + (y 1).val) := by
  have e1 : shapeCast S32x256 (xw x r cc) shapeCasts_S32x256_S32x256 = xw x r cc := shapeCast_id _ _
  show FloatOps.mulf (FloatOps.extf .f32 bitsLt_bf16_f32 (shapeCast S32x256 (xw x r cc) shapeCasts_S32x256_S32x256 y)) (broadcastTo S32x256 (gw g cc) broadcasts_S1x256_S32x256 y) = _
  rw [e1]
  rfl

/-- One chunk of the statistics. -/
theorem statStep_wp (r rp : Nat) (hr : r + 32 ≤ 1024) (hp : rp + 32 ≤ 512) (cc : Nat) (hc : cc + 256 ≤ 4096)
    (acc : FVec F S32x128 .f32 × FVec F S32x128 .f32) (f : BufTy.Contents (Elt F) arg17.view.ty)
    (hX : arg1.view.read (Elt F) X = x) (hG : arg16.view.read (Elt F) G = g) :
    iprop(pt c arg1 X ∗ pt c arg16 G ∗ pt c arg17 f)
      ⊢ wp frame (wpE (defs₀ (F := F)) 𝒱 (c : Thread nD τ) bd) E (statStep arg1 arg16 arg17 r rp hr hp cc hc acc)
        (fun acc' => iprop(pt c arg1 X ∗ pt c arg16 G ∗ pt c arg17 (arg17.view.writes (Elt F) f [⟨Rect.unit (s := S512x4096) ![rp, cc] S32x256.size (inbP hp hc), pOf (xw x r cc) (gw g cc)⟩])
          ∗ ⌜acc' = (ssStep (xOf (xw x r cc)) acc.1, amStep (pOf (xw x r cc) (gw g cc)) acc.2)⌝)) := by
  unfold statStep
  iintro ⟨HX, HG, HP⟩
  sl_exec
  rw [readX arg1 x X hr hc hX, readG arg16 g G hc hG, shapeCast_id]
  sl_step
  sl_close

/-- The scaled rows `[rp, rp + 32)` hold the columns below `C`. -/
def POk (r rp C : Nat) (f : BufTy.Contents (Elt F) arg17.view.ty) : Prop :=
  ∀ y : S512x4096.Idx, rp ≤ (y 0).val → (y 0).val < rp + 32 → (y 1).val < C → arg17.view.read (Elt F) f y = pAt x g (r + ((y 0).val - rp)) (y 1).val

/-- One more chunk of products is in place. -/
theorem POk_step {r rp cc : Nat} (hp : rp + 32 ≤ 512) (hc : cc + 256 ≤ 4096) (f : BufTy.Contents (Elt F) arg17.view.ty) (hf : POk arg17 x g r rp cc f) :
    POk arg17 x g r rp (cc + 256) (arg17.view.writes (Elt F) f [⟨Rect.unit (s := S512x4096) ![rp, cc] S32x256.size (inbP hp hc), pOf (xw x r cc) (gw g cc)⟩]) := by
  intro y h0 h1 h2
  by_cases hlt : (y 1).val < cc
  · rw [View.read_writes_cons_unit_of_not_mem _ _ _ _ _ _ rfl 1 (.inl hlt)]
    exact hf y h0 h1 hlt
  · have hy0 : (y 0).val - rp < 32 := by omega
    have hy1 : (y 1).val - cc < 256 := by omega
    have key := View.read_writes_cons_unit_of_mem arg17.view f (inbP hp hc) (pOf (xw x r cc) (gw g cc)) [] y
      (fun a => match a with | ⟨0, _⟩ => ⟨(y 0).val - rp, hy0⟩ | ⟨1, _⟩ => ⟨(y 1).val - cc, hy1⟩) rfl
      (by intro a; fin_cases a
          · show (y 0).val = rp + ((y 0).val - rp); omega
          · show (y 1).val = cc + ((y 1).val - cc); omega)
    rw [key]
    refine (pOf_win x g r cc _).trans ?_
    show pAt x g (r + ((y 0).val - rp)) (cc + ((y 1).val - cc)) = _
    rw [show cc + ((y 1).val - cc) = (y 1).val by omega]

/-- All chunks of the statistics. -/
theorem statLoop_wp (r rp : Nat) (hr : r + 32 ≤ 1024) (hp : rp + 32 ≤ 512) (hX : arg1.view.read (Elt F) X = x) (hG : arg16.view.read (Elt F) G = g)
    (n : Nat) : ∀ (k cc C K : Nat) (hc : cc + 256 * n ≤ 4096) (hk : cc = 256 * k) (hC : cc + 256 * n = C) (hK : k + n = K) (f : BufTy.Contents (Elt F) arg17.view.ty) (hf : POk arg17 x g r rp cc f),
    iprop(pt c arg1 X ∗ pt c arg16 G ∗ pt c arg17 f)
      ⊢ wp frame (wpE (defs₀ (F := F)) 𝒱 (c : Thread nD τ) bd) E (statLoop arg1 arg16 arg17 r rp hr hp n cc hc (accAt x g r k))
        (fun acc' => iprop(pt c arg1 X ∗ pt c arg16 G ∗ (∃ f', pt c arg17 f' ∗ ⌜POk arg17 x g r rp C f'⌝)
          ∗ ⌜acc' = accAt x g r K⌝)) := by
  induction n with
  | zero =>
    intro k cc C K hc hk hC hK f hf
    show _ ⊢ wp frame (wpE (defs₀ (F := F)) 𝒱 (c : Thread nD τ) bd) E (Pure.pure (accAt x g r k)) _
    iintro ⟨HX, HG, HP⟩
    sl_step
    iframe HX HG
    isplitl
    · iexists f
      iframe HP
      ipureintro
      exact hC ▸ hf
    · ipureintro
      exact hK ▸ rfl
  | succ n ih =>
    intro k cc C K hc hk hC hK f hf
    show _ ⊢ wp frame (wpE (defs₀ (F := F)) 𝒱 (c : Thread nD τ) bd) E (statStep arg1 arg16 arg17 r rp hr hp cc (by omega) (accAt x g r k) >>= fun acc' =>
      statLoop arg1 arg16 arg17 r rp hr hp n (cc + 256) (by omega) acc') _
    rw [wp_bind]
    refine (statStep_wp 𝒱 c bd E arg1 arg16 arg17 x g X G r rp hr hp cc (by omega) _ f hX hG).trans (wp_mono _ _ _ fun a => ?_)
    iintro ⟨HX, HG, HP, %ha⟩
    subst ha
    have := ih (k + 1) (cc + 256) C K (by omega) (by omega) (by omega) (by omega) _ (POk_step arg17 x g hp (by omega) f hf)
    rw [accAt, ← hk] at this
    iapply this
    iframe
end Cert.KernelIdeal.Gen
-- ==== Proof.K.Trip2.lean ====
module

public import proofs.«01_k».proof.Proof.K.Trip
public import Idealize.ShloMosaic.Lib.Exec
public import Idealize.ShloMosaic.Lib.Tactic
public import Idealize.ShloMosaic.Lib.Pointwise
public import Idealize.ShloMosaic.Lib.WritesUnit
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (arg1 : Memref sig .tc .vmem S1024x4096 .bf16) (arg16 : Memref sig .tc .vmem S1x4096 .f32)
  (arg17 : Memref sig .tc .vmem S512x4096 .f32) (arg19 : Memref sig .tc .vmem S512x128 .f32)
  (arg14 : Memref sig .tc .vmem S1024x4096 .fp8e4m3) (harg14 : arg14.IsWhole)

variable (x : Vec F S1024x4096 .bf16) (g : Vec F S1x4096 .f32)
variable (X : BufTy.Contents (Elt F) arg1.view.ty) (G : BufTy.Contents (Elt F) arg16.view.ty)

/-- A code depends on the numbers of its row and column. -/
theorem codeE_congr {p p' s s' : F .f32} (hp : p = p') (hs : s = s') : codeE p s = codeE p' s' := by rw [hp, hs]

/-- The codes of the rows below `r`, and of the rows of the group at `r` at the columns below `C`. -/
def COk (r C : Nat) (f : BufTy.Contents (Elt F) arg14.view.ty) : Prop :=
  ∀ y : S1024x4096.Idx, ((y 0).val < r ∨ (y 0).val < r + 32 ∧ (y 1).val < C) → arg14.view.read (Elt F) f y = codeAt x g (y 0).val (y 1).val

/-- The multiplier of a group's rows along the lanes. -/
def mB (r : Nat) : FVec F S32x128 .f32 := broadcastTo S32x128 (shapeCast S32x1 (mV x g r) shapeCasts_S32x1_S32x1) broadcasts_S32x1_S32x128

/-- The multiplier broadcast along a row. -/
theorem mB_apply (r : Nat) (y : S32x128.Idx) : mB x g r y = mV x g r (ix1 (y 0).val) := by
  unfold mB
  rw [shapeCast_id]
  show mV x g r _ = _
  congr 1
  symm
  refine ix2_eq _ _ _ _ _ ?_ ?_
  · rfl
  · rfl

/-- The payload of one chunk of codes. -/
def codeW (f : BufTy.Contents (Elt F) arg17.view.ty) (r rp cc : Nat) (hp : rp + 32 ≤ 512) (hc : cc + 128 ≤ 4096) : FVec F S32x128 .fp8e4m3 :=
  codeOf (arg17.view.readAt (Elt F) (Rect.unit (s := S512x4096) ![rp, cc] S32x128.size (inbP' hp hc)).toLoadRect f) (mB x g r)

/-- A chunk of codes at an index. -/
theorem codeW_apply {f : BufTy.Contents (Elt F) arg17.view.ty} {r rp cc q : Nat} (hr : r = 32 * q) (hp : rp + 32 ≤ 512) (hc : cc + 128 ≤ 4096)
    (hf : POk arg17 x g r rp 4096 f) (y : S32x128.Idx) :
    codeW arg17 x g f r rp cc hp hc y = codeAt x g (r + (y 0).val) (cc + (y 1).val) := by
  have hy0 : (y 0).val < 32 := (y 0).isLt
  have hy1 : (y 1).val < 128 := (y 1).isLt
  show codeE (arg17.view.read (Elt F) f _) (mB x g r y) = codeE _ _
  refine codeE_congr ?_ ?_
  · refine (hf _ ?_ ?_ ?_).trans ?_
    · show rp ≤ rp + 1 * (y 0).val; omega
    · show rp + 1 * (y 0).val < rp + 32; omega
    · show cc + 1 * (y 1).val < 4096; omega
    · show pAt x g (r + (rp + 1 * (y 0).val - rp)) (cc + 1 * (y 1).val) = _
      congr 1 <;> omega
  · rw [mB_apply]
    unfold mAt
    rw [show 32 * ((r + (y 0).val) / 32) = r by omega, show (r + (y 0).val) % 32 = (y 0).val by omega]

/-- One chunk of codes. -/
theorem codeStep_wp (r rp : Nat) (hr : r + 32 ≤ 1024) (hp : rp + 32 ≤ 512) (h4 : 4 ∣ r) (cc : Nat) (hc : cc + 128 ≤ 4096)
    (f : BufTy.Contents (Elt F) arg17.view.ty) (f' : BufTy.Contents (Elt F) arg14.view.ty) :
    iprop(pt c arg17 f ∗ pt c arg14 f')
      ⊢ wp frame (wpE (defs₀ (F := F)) 𝒱 (c : Thread nD τ) bd) E (codeStep arg17 arg14 harg14 r rp hr hp h4 (mB x g r) cc hc)
        (fun _ => iprop(pt c arg17 f ∗ pt c arg14 (arg14.view.writes (Elt F) f' [⟨Rect.unit (s := S1024x4096) ![r, cc] S32x128.size (inbC hr hc), codeW arg17 x g f r rp cc hp hc⟩]))) := by
  unfold codeStep
  iintro ⟨HP, HC⟩
  sl_exec
  sl_step
  sl_close

/-- One more chunk of codes is in place. -/
theorem COk_step {r rp cc q : Nat} (hr : r + 32 ≤ 1024) (hq : r = 32 * q) (hp : rp + 32 ≤ 512) (hc : cc + 128 ≤ 4096)
    (f : BufTy.Contents (Elt F) arg17.view.ty) (f' : BufTy.Contents (Elt F) arg14.view.ty) (hf : POk arg17 x g r rp 4096 f) (hf' : COk arg14 x g r cc f') :
    COk arg14 x g r (cc + 128) (arg14.view.writes (Elt F) f' [⟨Rect.unit (s := S1024x4096) ![r, cc] S32x128.size (inbC hr hc), codeW arg17 x g f r rp cc hp hc⟩]) := by
  intro y h
  by_cases hlt : (y 0).val < r
  · rw [View.read_writes_cons_unit_of_not_mem _ _ _ _ _ _ rfl 0 (.inl hlt)]
    exact hf' y (.inl hlt)
  by_cases hlt1 : (y 1).val < cc
  · rw [View.read_writes_cons_unit_of_not_mem _ _ _ _ _ _ rfl 1 (.inl hlt1)]
    exact hf' y (.inr ⟨by omega, hlt1⟩)
  · have hy0 : (y 0).val - r < 32 := by omega
    have hy1 : (y 1).val - cc < 128 := by omega
    have key := View.read_writes_cons_unit_of_mem arg14.view f' (inbC hr hc) (codeW arg17 x g f r rp cc hp hc) [] y
      (fun a => match a with | ⟨0, _⟩ => ⟨(y 0).val - r, hy0⟩ | ⟨1, _⟩ => ⟨(y 1).val - cc, hy1⟩) rfl
      (by intro a; fin_cases a
          · show (y 0).val = r + ((y 0).val - r); omega
          · show (y 1).val = cc + ((y 1).val - cc); omega)
    rw [key, codeW_apply arg17 x g hq hp hc hf]
    show codeAt x g (r + ((y 0).val - r)) (cc + ((y 1).val - cc)) = _
    congr 1 <;> omega

/-- All chunks of codes. -/
theorem codeLoop_wp (r rp q : Nat) (hr : r + 32 ≤ 1024) (hq : r = 32 * q) (hp : rp + 32 ≤ 512) (h4 : 4 ∣ r) (f : BufTy.Contents (Elt F) arg17.view.ty) (hf : POk arg17 x g r rp 4096 f)
    (n : Nat) : ∀ (cc C : Nat) (hc : cc + 128 * n ≤ 4096) (hC : cc + 128 * n = C) (f' : BufTy.Contents (Elt F) arg14.view.ty) (hf' : COk arg14 x g r cc f'),
    iprop(pt c arg17 f ∗ pt c arg14 f')
      ⊢ wp frame (wpE (defs₀ (F := F)) 𝒱 (c : Thread nD τ) bd) E (codeLoop arg17 arg14 harg14 r rp hr hp h4 (mB x g r) n cc hc)
        (fun _ => iprop(pt c arg17 f ∗ (∃ f'', pt c arg14 f'' ∗ ⌜COk arg14 x g r C f''⌝))) := by
  induction n with
  | zero =>
    intro cc C hc hC f' hf'
    show _ ⊢ wp frame (wpE (defs₀ (F := F)) 𝒱 (c : Thread nD τ) bd) E (Pure.pure () : KProg F Unit) _
    iintro ⟨HP, HC⟩
    sl_step
    iframe HP
    iexists f'
    iframe HC
    ipureintro
    exact hC ▸ hf'
  | succ n ih =>
    intro cc C hc hC f' hf'
    show _ ⊢ wp frame (wpE (defs₀ (F := F)) 𝒱 (c : Thread nD τ) bd) E (codeStep arg17 arg14 harg14 r rp hr hp h4 (mB x g r) cc (by omega) >>= fun _ =>
      codeLoop arg17 arg14 harg14 r rp hr hp h4 (mB x g r) n (cc + 128) (by omega)) _
    rw [wp_bind]
    refine (codeStep_wp 𝒱 c bd E arg17 arg14 harg14 x g r rp hr hp h4 cc (by omega) f f').trans (wp_mono _ _ _ fun a => ?_)
    exact ih (cc + 128) C (by omega) (by omega) _ (COk_step arg17 arg14 x g hr hq hp (by omega) f f' hf hf')

/-- The scales of the rows below `R` of the half at `base`. -/
def HOk (base R : Nat) (f : BufTy.Contents (Elt F) arg19.view.ty) : Prop :=
  ∀ y : S512x128.Idx, (y 0).val < R → arg19.view.read (Elt F) f y = scAt x g (base + (y 0).val)

/-- The scale of a group's rows along the lanes. -/
def scB (r : Nat) : FVec F S32x128 .f32 := broadcastTo S32x128 (shapeCast S32x1 (scV x g r) shapeCasts_S32x1_S32x1) broadcasts_S32x1_S32x128

/-- The scale broadcast along a row. -/
theorem scB_apply (r : Nat) (y : S32x128.Idx) : scB x g r y = scV x g r (ix1 (y 0).val) := by
  unfold scB
  rw [shapeCast_id]
  show scV x g r _ = _
  congr 1
  symm
  refine ix2_eq _ _ _ _ _ ?_ ?_
  · rfl
  · rfl

/-- One more group of row scales is in place. -/
theorem HOk_step {base rp q : Nat} (hq : base + rp = 32 * q) (hp : rp + 32 ≤ 512) (f : BufTy.Contents (Elt F) arg19.view.ty) (hf : HOk arg19 x g base rp f) :
    HOk arg19 x g base (rp + 32) (arg19.view.writes (Elt F) f [⟨Rect.unit (s := S512x128) ![rp, 0] S32x128.size (inbH hp), scB x g (base + rp)⟩]) := by
  intro y h
  by_cases hlt : (y 0).val < rp
  · rw [View.read_writes_cons_unit_of_not_mem _ _ _ _ _ _ rfl 0 (.inl hlt)]
    exact hf y hlt
  · have hy0 : (y 0).val - rp < 32 := by omega
    have key := View.read_writes_cons_unit_of_mem arg19.view f (inbH hp) (scB x g (base + rp)) [] y
      (fun a => match a with | ⟨0, _⟩ => ⟨(y 0).val - rp, hy0⟩ | ⟨1, _⟩ => ⟨(y 1).val, (y 1).isLt⟩) rfl
      (by intro a; fin_cases a
          · show (y 0).val = rp + ((y 0).val - rp); omega
          · show (y 1).val = 0 + (y 1).val; omega)
    rw [key, scB_apply]
    show scV x g (base + rp) (ix1 ((y 0).val - rp)) = _
    unfold scAt
    rw [show 32 * ((base + (y 0).val) / 32) = base + rp by omega, show (base + (y 0).val) % 32 = (y 0).val - rp by omega]

/-- The store of a group's scales. -/
theorem scaleStep_wp (base rp : Nat) (hp : rp + 32 ≤ 512) (h : BufTy.Contents (Elt F) arg19.view.ty) :
    iprop(pt c arg19 h)
      ⊢ wp frame (wpE (defs₀ (F := F)) 𝒱 (c : Thread nD τ) bd) E (scaleStep arg19 rp hp (scV x g (base + rp)))
        (fun _ => iprop(pt c arg19 (arg19.view.writes (Elt F) h [⟨Rect.unit (s := S512x128) ![rp, 0] S32x128.size (inbH hp), scB x g (base + rp)⟩]))) := by
  unfold scaleStep
  iintro HH
  sl_exec
  rw [shapeCast_id _ shapeCasts_S32x128_S32x128]
  sl_step
  sl_close

/-- A whole group. -/
theorem grp_wp (base rp q : Nat) (hr : base + rp + 32 ≤ 1024) (hq : base + rp = 32 * q) (hp : rp + 32 ≤ 512) (h4 : 4 ∣ base + rp)
    (hX : arg1.view.read (Elt F) X = x) (hG : arg16.view.read (Elt F) G = g)
    (f : BufTy.Contents (Elt F) arg17.view.ty) (f' : BufTy.Contents (Elt F) arg14.view.ty) (h : BufTy.Contents (Elt F) arg19.view.ty)
    (hf' : COk arg14 x g (base + rp) 0 f') (hh : HOk arg19 x g base rp h) :
    iprop(pt c arg1 X ∗ pt c arg16 G ∗ pt c arg17 f ∗ pt c arg19 h ∗ pt c arg14 f')
      ⊢ wp frame (wpE (defs₀ (F := F)) 𝒱 (c : Thread nD τ) bd) E (grp arg1 arg16 arg17 arg19 arg14 harg14 (base + rp) rp hr hp h4)
        (fun _ => iprop(pt c arg1 X ∗ pt c arg16 G ∗ (∃ f, pt c arg17 f) ∗ (∃ h, pt c arg19 h ∗ ⌜HOk arg19 x g base (rp + 32) h⌝)
          ∗ (∃ f'', pt c arg14 f'' ∗ ⌜COk arg14 x g (base + rp + 32) 0 f''⌝))) := by
  unfold grp
  rw [wp_bind]
  iintro ⟨HX, HG, HP, HH, HC⟩
  iapply (wp_wand_r frame (wpE (defs₀ (F := F)) 𝒱 (c : Thread nD τ) bd) E)
  isplitl [HX HG HP]
  · have := statLoop_wp 𝒱 c bd E arg1 arg16 arg17 x g X G (base + rp) rp hr hp hX hG 16 0 0 4096 16 (by omega) rfl rfl rfl f (fun y _ _ h => absurd h (Nat.not_lt_zero _))
    rw [accAt] at this
    iapply this
    iframe
  iintro %a ⟨HX, HG, ⟨%f1, HP, %hf1⟩, %ha⟩
  subst ha
  rw [wp_bind]
  iapply (wp_wand_r frame (wpE (defs₀ (F := F)) 𝒱 (c : Thread nD τ) bd) E)
  isplitl [HH]
  · iapply (scaleStep_wp 𝒱 c bd E arg19 x g base rp hp h)
    iexact HH
  iintro %u HH
  iapply (wp_wand_r frame (wpE (defs₀ (F := F)) 𝒱 (c : Thread nD τ) bd) E)
  isplitl [HP HC]
  · iapply (codeLoop_wp 𝒱 c bd E arg17 arg14 harg14 x g (base + rp) rp q hr hq hp h4 f1 hf1 32 0 4096 (by omega) (by omega) f' hf')
    iframe
  iintro %u' ⟨HP, ⟨%f2, HC, %hf2⟩⟩
  iframe HX HG
  isplitl [HP]
  · iexists f1
    iexact HP
  isplitl [HH]
  · iexists _
    iframe HH
    ipureintro
    exact HOk_step arg19 x g hq hp h hh
  · iexists f2
    iframe HC
    ipureintro
    intro y hy
    exact hf2 y (.inr ⟨by omega, (y 1).isLt⟩)
end Cert.KernelIdeal.Gen
-- ==== Proof.K.Trip3.lean ====
module

public import proofs.«01_k».proof.Proof.K.Trip2
public import proofs.«01_k».proof.Proof.K.Body
public import Idealize.ShloMosaic.Lib.Exec
public import Idealize.ShloMosaic.Lib.Tactic
public import Idealize.ShloMosaic.Lib.Pointwise
public import Idealize.ShloMosaic.Lib.WritesUnit
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (x : Vec F S1024x4096 .bf16) (g : Vec F S1x4096 .f32)

/-! ## What the outputs hold -/

/-- The scales of a block of 128 rows, along the lanes. -/
def scBlk (r : Nat) : Vec F S128x128 .f32 := fun y => scAt x g (r + (y 0).val)
/-- An index of 128 scales. -/
def ixS (k : Nat) (h : k < 128) : S1x1x128.Idx :=
  fun a => match a with | ⟨0, _⟩ => (⟨0, by decide⟩ : Fin 1) | ⟨1, _⟩ => (⟨0, by decide⟩ : Fin 1) | ⟨2, _⟩ => (⟨k, h⟩ : Fin 128)
/-- It depends on the number alone. -/
theorem ixS_congr {k k' : Nat} (h : k = k') (hk : k < 128) (hk' : k' < 128) : ixS k hk = ixS k' hk' := by subst h; rfl
/-- The stored scale of row `R`. -/
def scOut (R : Nat) : F .f32 := diagOf (scBlk x g (128 * (R / 128))) (ixS (R % 128) (Nat.mod_lt _ (by decide)))
/-- The codes of a half. -/
def codesH (base : Nat) : Vec F S512x4096 .fp8e4m3 := fun y => codeAt x g (base + (y 0).val) (y 1).val
/-- The scales of a half, along the lanes. -/
def hsH (base : Nat) : Vec F S512x128 .f32 := fun y => scAt x g (base + (y 0).val)
/-- The window of a row of 512 at column `c`. -/
def wsw (s : Vec F S1x512 .f32) (c : Nat) : Vec F S1x128 .f32 := win (R := 1) (C := 512) (by decide) (by decide) 1 128 s 0 c

variable (w : Vec F S512x4096 .fp8e4m3) (s : Vec F S1x512 .f32) (nw : Vec F S1x128 .bf16)

/-- A head as it is. -/
def yV (base c : Nat) (hsl : S512x512.Slices ![0, c] S512x128) : FVec F S512x128 .f32 := headY (accOf (codesH x g base) w) (hsH x g base) (wsw s c) c hsl
/-- A head after its norm. -/
def yN (base c : Nat) (hsl : S512x512.Slices ![0, c] S512x128) : FVec F S512x128 .f32 := headN (yV x g w s base c hsl) nw

/-- A pair of heads as they are. -/
def pairV (base i : Nat) : Vec F S512x2x128 .bf16 :=
  if i = 0 then pairOf (yV x g w s base 0 slices_S512x512_o0_0_S512x128) (yV x g w s base 128 slices_S512x512_o0_128_S512x128)
  else pairOf (yV x g w s base 256 slices_S512x512_o0_256_S512x128) (yV x g w s base 384 slices_S512x512_o0_384_S512x128)

/-- A pair of heads after their norms. -/
def pairN (base i : Nat) : Vec F S512x2x128 .bf16 :=
  if i = 0 then pairOf (yN x g w s nw base 0 slices_S512x512_o0_0_S512x128) (yN x g w s nw base 128 slices_S512x512_o0_128_S512x128)
  else pairOf (yN x g w s nw base 256 slices_S512x512_o0_256_S512x128) (yN x g w s nw base 384 slices_S512x512_o0_384_S512x128)

/-- An index of a pair of heads. -/
def ix3 (r i l : Nat) (hi : i < 2) (hl : l < 128) : S512x2x128.Idx :=
  fun a => match a with | ⟨0, _⟩ => (⟨r % 512, Nat.mod_lt _ (by decide)⟩ : Fin 512) | ⟨1, _⟩ => (⟨i, hi⟩ : Fin 2) | ⟨2, _⟩ => (⟨l, hl⟩ : Fin 128)

/-- It depends on the numbers alone. -/
theorem ix3_congr (r l : Nat) {i i' : Nat} (h : i = i') (hi : i < 2) (hi' : i' < 2) (hl : l < 128) : ix3 r i l hi hl = ix3 r i' l hi' hl := by subst h; rfl

/-- An output's block from its pairs of heads. -/
def outOf (p : Nat → Nat → Vec F S512x2x128 .bf16) : Vec F S1024x4x128 .bf16 :=
  fun y => p (512 * ((y 0).val / 512)) (2 * ((y 1).val / 2)) (ix3 (y 0).val ((y 1).val % 2) (y 2).val (Nat.mod_lt _ (by decide)) (y 2).isLt)

variable (arg1 : Memref sig .tc .vmem S1024x4096 .bf16) (arg16 : Memref sig .tc .vmem S1x4096 .f32)
  (arg17 : Memref sig .tc .vmem S512x4096 .f32) (arg19 : Memref sig .tc .vmem S512x128 .f32)
  (arg14 : Memref sig .tc .vmem S1024x4096 .fp8e4m3) (harg14 : arg14.IsWhole) (arg15 : Memref sig .tc .vmem S1x1x1024 .f32)
variable (X : BufTy.Contents (Elt F) arg1.view.ty) (G : BufTy.Contents (Elt F) arg16.view.ty)

/-! ## The groups of a half -/

/-- All groups of a half. -/
theorem grpLoop_wp (base : Nat) (hb : base + 512 ≤ 1024) (h4 : 4 ∣ base) (h32 : 32 ∣ base)
    (hX : arg1.view.read (Elt F) X = x) (hG : arg16.view.read (Elt F) G = g) (n : Nat) :
    ∀ (rp R : Nat) (hp : rp + 32 * n ≤ 512) (hd : 4 ∣ rp) (h32' : 32 ∣ rp) (hR : rp + 32 * n = R)
    (f : BufTy.Contents (Elt F) arg17.view.ty) (f' : BufTy.Contents (Elt F) arg14.view.ty) (h : BufTy.Contents (Elt F) arg19.view.ty)
    (hf' : COk arg14 x g (base + rp) 0 f') (hh : HOk arg19 x g base rp h),
    iprop(pt c arg1 X ∗ pt c arg16 G ∗ pt c arg17 f ∗ pt c arg19 h ∗ pt c arg14 f')
      ⊢ wp frame (wpE (defs₀ (F := F)) 𝒱 (c : Thread nD τ) bd) E (grpLoop arg1 arg16 arg17 arg19 arg14 harg14 base hb h4 n rp hp hd)
        (fun _ => iprop(pt c arg1 X ∗ pt c arg16 G ∗ (∃ f, pt c arg17 f) ∗ (∃ h, pt c arg19 h ∗ ⌜HOk arg19 x g base R h⌝)
          ∗ (∃ f'', pt c arg14 f'' ∗ ⌜COk arg14 x g (base + R) 0 f''⌝))) := by
  induction n with
  | zero =>
    intro rp R hp hd h32' hR f f' h hf' hh
    show _ ⊢ wp frame (wpE (defs₀ (F := F)) 𝒱 (c : Thread nD τ) bd) E (Pure.pure () : KProg F Unit) _
    iintro ⟨HX, HG, HP, HH, HC⟩
    sl_step
    iframe HX HG
    isplitl [HP]
    · iexists f
      iexact HP
    isplitl [HH]
    · iexists h
      iframe HH
      ipureintro
      exact hR ▸ hh
    · iexists f'
      iframe HC
      ipureintro
      exact hR ▸ hf'
  | succ n ih =>
    intro rp R hp hd h32' hR f f' h hf' hh
    show _ ⊢ wp frame (wpE (defs₀ (F := F)) 𝒱 (c : Thread nD τ) bd) E (grp arg1 arg16 arg17 arg19 arg14 harg14 (base + rp) rp (by omega) (by omega) (by omega) >>= fun _ =>
      grpLoop arg1 arg16 arg17 arg19 arg14 harg14 base hb h4 n (rp + 32) (by omega) (by omega)) _
    rw [wp_bind]
    obtain ⟨q, hq⟩ : 32 ∣ base + rp := Nat.dvd_add h32 h32'
    refine (grp_wp 𝒱 c bd E arg1 arg16 arg17 arg19 arg14 harg14 x g X G base rp q (by omega) hq (by omega) (by omega) hX hG f f' h hf' hh).trans (wp_mono _ _ _ fun a => ?_)
    iintro ⟨HX, HG, ⟨%f1, HP⟩, ⟨%h1, HH, %hh1⟩, ⟨%f2, HC, %hf2⟩⟩
    have := ih (rp + 32) R (by omega) (by omega) (by omega) (by omega) f1 f2 h1 hf2 hh1
    iapply this
    iframe

/-! ## The row of scales -/

/-- The stored scales of the rows below `R`. -/
def SOk (R : Nat) (f : BufTy.Contents (Elt F) arg15.view.ty) : Prop :=
  ∀ y : S1x1x1024.Idx, (y 2).val < R → arg15.view.read (Elt F) f y = scOut x g (y 2).val

/-- The store of 128 scales. -/
theorem diagStep_wp (base b : Nat) (hb : base + 512 ≤ 1024) (h : b + 128 ≤ 512) (f : BufTy.Contents (Elt F) arg19.view.ty) (f' : BufTy.Contents (Elt F) arg15.view.ty)
    (hf : HOk arg19 x g base 512 f) :
    iprop(pt c arg19 f ∗ pt c arg15 f')
      ⊢ wp frame (wpE (defs₀ (F := F)) 𝒱 (c : Thread nD τ) bd) E (diagStep arg19 arg15 base b hb h)
        (fun _ => iprop(pt c arg19 f ∗ pt c arg15 (arg15.view.writes (Elt F) f' [⟨Rect.unit (s := S1x1x1024) ![0, 0, base + b] S1x1x128.size (inbSc (by omega)), diagOf (scBlk x g (base + b))⟩]))) := by
  have e : arg19.view.readAt (Elt F) (Rect.unit (s := S512x128) ![b, 0] S128x128.size (inbHB h)).toLoadRect f = scBlk x g (base + b) := by
    funext y
    have hy : (y 0).val < 128 := (y 0).isLt
    refine (hf _ ?_).trans ?_
    · show b + 1 * (y 0).val < 512; omega
    · show scAt x g (base + (b + 1 * (y 0).val)) = scAt x g (base + b + (y 0).val)
      congr 1; omega
  unfold diagStep
  iintro ⟨HH, HS⟩
  sl_exec
  sl_step
  sl_close

/-- 128 more scales are in place. -/
theorem SOk_step {base b q : Nat} (hq : base + b = 128 * q) (hb : base + 512 ≤ 1024) (h : b + 128 ≤ 512) (f' : BufTy.Contents (Elt F) arg15.view.ty) (hf' : SOk x g arg15 (base + b) f') :
    SOk x g arg15 (base + b + 128) (arg15.view.writes (Elt F) f' [⟨Rect.unit (s := S1x1x1024) ![0, 0, base + b] S1x1x128.size (inbSc (by omega)), diagOf (scBlk x g (base + b))⟩]) := by
  intro y hy
  by_cases hlt : (y 2).val < base + b
  · rw [View.read_writes_cons_unit_of_not_mem _ _ _ _ _ _ rfl 2 (.inl hlt)]
    exact hf' y hlt
  · have hy0 : (y 2).val - (base + b) < 128 := by omega
    have h0 : (y 0).val < 1 := (y 0).isLt
    have h1 : (y 1).val < 1 := (y 1).isLt
    have key := View.read_writes_cons_unit_of_mem arg15.view f' (inbSc (c := base + b) (by omega)) (diagOf (scBlk x g (base + b))) [] y
      (ixS ((y 2).val - (base + b)) hy0) rfl
      (by intro a; fin_cases a
          · show (y 0).val = 0 + 0; omega
          · show (y 1).val = 0 + 0; omega
          · show (y 2).val = base + b + ((y 2).val - (base + b)); omega)
    rw [key]
    unfold scOut
    rw [show 128 * ((y 2).val / 128) = base + b by omega]
    refine congrArg (diagOf (scBlk x g (base + b))) ?_
    exact ixS_congr (by omega) _ _

/-- All scales of a half. -/
theorem diagLoop_wp (base : Nat) (hb : base + 512 ≤ 1024) (h128 : 128 ∣ base) (f : BufTy.Contents (Elt F) arg19.view.ty) (hf : HOk arg19 x g base 512 f) (n : Nat) :
    ∀ (b R : Nat) (h : b + 128 * n ≤ 512) (hd : 128 ∣ b) (hR : b + 128 * n = R) (f' : BufTy.Contents (Elt F) arg15.view.ty) (hf' : SOk x g arg15 (base + b) f'),
    iprop(pt c arg19 f ∗ pt c arg15 f')
      ⊢ wp frame (wpE (defs₀ (F := F)) 𝒱 (c : Thread nD τ) bd) E (diagLoop arg19 arg15 base hb n b h)
        (fun _ => iprop(pt c arg19 f ∗ (∃ f'', pt c arg15 f'' ∗ ⌜SOk x g arg15 (base + R) f''⌝))) := by
  induction n with
  | zero =>
    intro b R h hd hR f' hf'
    show _ ⊢ wp frame (wpE (defs₀ (F := F)) 𝒱 (c : Thread nD τ) bd) E (Pure.pure () : KProg F Unit) _
    iintro ⟨HH, HS⟩
    sl_step
    iframe HH
    iexists f'
    iframe HS
    ipureintro
    exact hR ▸ hf'
  | succ n ih =>
    intro b R h hd hR f' hf'
    show _ ⊢ wp frame (wpE (defs₀ (F := F)) 𝒱 (c : Thread nD τ) bd) E (diagStep arg19 arg15 base b hb (by omega) >>= fun _ =>
      diagLoop arg19 arg15 base hb n (b + 128) (by omega)) _
    rw [wp_bind]
    obtain ⟨q, hq⟩ : 128 ∣ base + b := Nat.dvd_add h128 hd
    refine (diagStep_wp 𝒱 c bd E x g arg19 arg15 base b hb (by omega) f f' hf).trans (wp_mono _ _ _ fun a => ?_)
    exact ih (b + 128) R (by omega) (by omega) (by omega) _ (SOk_step x g arg15 hq hb (by omega) f' hf')

/-! ## The projections -/

section
variable (W : Memref sig .tc .vmem S512x4096 .fp8e4m3) (Sr : Memref sig .tc .vmem S1x512 .f32) (N : Memref sig .tc .vmem S1x128 .bf16)
  (o : Memref sig .tc .vmem S1024x4x128 .bf16) (ho : o.IsWhole)
variable (Wf : BufTy.Contents (Elt F) W.view.ty) (Sf : BufTy.Contents (Elt F) Sr.view.ty) (Nf : BufTy.Contents (Elt F) N.view.ty)

/-- A product of codes and a weight. -/
theorem prodStep_wp (base : Nat) (hb : base + 512 ≤ 1024) (f : BufTy.Contents (Elt F) arg19.view.ty) (f' : BufTy.Contents (Elt F) arg14.view.ty)
    (hf : HOk arg19 x g base 512 f) (hf' : COk arg14 x g (base + 512) 0 f') (hW : W.view.read (Elt F) Wf = w) :
    iprop(pt c arg19 f ∗ pt c arg14 f' ∗ pt c W Wf)
      ⊢ wp frame (wpE (defs₀ (F := F)) 𝒱 (c : Thread nD τ) bd) E (prodStep arg19 arg14 W base hb)
        (fun p => iprop(pt c arg19 f ∗ pt c arg14 f' ∗ pt c W Wf ∗ ⌜p = (accOf (codesH x g base) w, hsH x g base)⌝)) := by
  have e1 : arg14.view.readAt (Elt F) (Rect.unit (s := S1024x4096) ![base, 0] S512x4096.size (inbCH hb)).toLoadRect f' = codesH x g base := by
    funext y
    have hy : (y 0).val < 512 := (y 0).isLt
    refine (hf' _ (.inl ?_)).trans ?_
    · show base + 1 * (y 0).val < base + 512; omega
    · show codeAt x g (base + 1 * (y 0).val) (0 + 1 * (y 1).val) = codeAt x g (base + (y 0).val) (y 1).val
      congr 1 <;> omega
  have e2 : W.view.readAt (Elt F) (Rect.unit (s := S512x4096) ![0, 0] S512x4096.size inbW).toLoadRect Wf = w := by
    subst hW
    funext y
    show W.view.read (Elt F) Wf _ = W.view.read (Elt F) Wf _
    congr 1
    funext a
    apply Fin.ext
    fin_cases a
    · show 0 + 1 * (y 0).val = (y 0).val; omega
    · show 0 + 1 * (y 1).val = (y 1).val; omega
  have e3 : arg19.view.readAt (Elt F) (Rect.unit (s := S512x128) ![0, 0] S512x128.size inbHs).toLoadRect f = hsH x g base := by
    funext y
    have hy : (y 0).val < 512 := (y 0).isLt
    refine (hf _ ?_).trans ?_
    · show 0 + 1 * (y 0).val < 512; omega
    · show scAt x g (base + (0 + 1 * (y 0).val)) = scAt x g (base + (y 0).val)
      congr 1; omega
  unfold prodStep
  iintro ⟨HH, HC, HW⟩
  sl_exec
  sl_step
  sl_close

/-- A read of a head's column scales. -/
theorem wsw_read (cc : Nat) (hc : cc + 128 ≤ 512) (hS : Sr.view.read (Elt F) Sf = s) :
    Sr.view.readAt (Elt F) (Rect.unit (s := S1x512) ![0, cc] S1x128.size (inbWs hc)).toLoadRect Sf = wsw s cc := by
  subst hS
  funext y
  show Sr.view.read (Elt F) Sf _ = Sr.view.read (Elt F) Sf _
  congr 1
  symm
  refine ix2_eq _ _ _ _ _ ?_ ?_
  · show 0 + 1 * (y 0).val = _; omega
  · show cc + 1 * (y 1).val = _; omega

/-- One head as it is. -/
theorem headStep_wp (acc : FVec F S512x512 .f32) (hs : Vec F S512x128 .f32) (cc : Nat) (hc : cc + 128 ≤ 512) (hsl : S512x512.Slices ![0, cc] S512x128)
    (hS : Sr.view.read (Elt F) Sf = s) :
    iprop(pt c Sr Sf)
      ⊢ wp frame (wpE (defs₀ (F := F)) 𝒱 (c : Thread nD τ) bd) E (headStep Sr acc hs cc hc hsl)
        (fun p => iprop(pt c Sr Sf ∗ ⌜p = headY acc hs (wsw s cc) cc hsl⌝)) := by
  have e := wsw_read s Sr Sf cc hc hS
  unfold headStep
  iintro HS
  sl_exec
  sl_step
  sl_close

/-- One head after its norm. -/
theorem headNStep_wp (acc : FVec F S512x512 .f32) (hs : Vec F S512x128 .f32) (cc : Nat) (hc : cc + 128 ≤ 512) (hsl : S512x512.Slices ![0, cc] S512x128)
    (hS : Sr.view.read (Elt F) Sf = s) (hN : N.view.read (Elt F) Nf = nw) :
    iprop(pt c Sr Sf ∗ pt c N Nf)
      ⊢ wp frame (wpE (defs₀ (F := F)) 𝒱 (c : Thread nD τ) bd) E (headNStep Sr N acc hs cc hc hsl)
        (fun p => iprop(pt c Sr Sf ∗ pt c N Nf ∗ ⌜p = headN (headY acc hs (wsw s cc) cc hsl) nw⌝)) := by
  have e := wsw_read s Sr Sf cc hc hS
  have e2 : N.view.readAt (Elt F) (Rect.unit (s := S1x128) ![0, 0] S1x128.size inbNw).toLoadRect Nf = nw := by
    subst hN
    funext y
    show N.view.read (Elt F) Nf _ = N.view.read (Elt F) Nf _
    congr 1
    funext a
    apply Fin.ext
    fin_cases a
    · show 0 + 1 * (y 0).val = (y 0).val; omega
    · show 0 + 1 * (y 1).val = (y 1).val; omega
  unfold headNStep
  iintro ⟨HS, HN⟩
  sl_exec
  sl_step
  sl_close

/-- The store of a pair of heads. -/
theorem pairStep_wp (base i : Nat) (hb : base + 512 ≤ 1024) (hi : i + 2 ≤ 4) (h2 : 2 ∣ i) (lo hi' : FVec F S512x128 .f32) (f : BufTy.Contents (Elt F) o.view.ty) :
    iprop(pt c o f)
      ⊢ wp frame (wpE (defs₀ (F := F)) 𝒱 (c : Thread nD τ) bd) E (pairStep o ho base i hb hi h2 lo hi')
        (fun _ => iprop(pt c o (o.view.writes (Elt F) f [⟨Rect.unit (s := S1024x4x128) ![base, i, 0] S512x2x128.size (inbO hb hi), pairOf lo hi'⟩]))) := by
  unfold pairStep
  iintro HO
  sl_exec
  sl_step
  sl_close

/-- The output's rows below `base`, and of the half at `base` the heads below `i`. -/
def OOk (p : Nat → Nat → Vec F S512x2x128 .bf16) (base i : Nat) (f : BufTy.Contents (Elt F) o.view.ty) : Prop :=
  ∀ y : S1024x4x128.Idx, ((y 0).val < base ∨ (y 0).val < base + 512 ∧ (y 1).val < i) → o.view.read (Elt F) f y = outOf p y

/-- One more pair of heads is in place. -/
theorem OOk_step {base i a b : Nat} (p : Nat → Nat → Vec F S512x2x128 .bf16) (ha : base = 512 * a) (hi2 : i = 2 * b) (hb : base + 512 ≤ 1024) (hi : i + 2 ≤ 4)
    (f : BufTy.Contents (Elt F) o.view.ty) (hf : OOk o p base i f) :
    OOk o p base (i + 2) (o.view.writes (Elt F) f [⟨Rect.unit (s := S1024x4x128) ![base, i, 0] S512x2x128.size (inbO hb hi), p base i⟩]) := by
  intro y h
  by_cases hlt : (y 0).val < base
  · rw [View.read_writes_cons_unit_of_not_mem _ _ _ _ _ _ rfl 0 (.inl hlt)]
    exact hf y (.inl hlt)
  by_cases hlt1 : (y 1).val < i
  · rw [View.read_writes_cons_unit_of_not_mem _ _ _ _ _ _ rfl 1 (.inl hlt1)]
    exact hf y (.inr ⟨by omega, hlt1⟩)
  · have hy1 : (y 1).val - i < 2 := by omega
    have key := View.read_writes_cons_unit_of_mem o.view f (inbO hb hi) (p base i) [] y
      (ix3 (y 0).val ((y 1).val - i) (y 2).val hy1 (y 2).isLt) rfl
      (by intro a'; fin_cases a'
          · show (y 0).val = base + (y 0).val % 512; omega
          · show (y 1).val = i + ((y 1).val - i); omega
          · show (y 2).val = 0 + (y 2).val; omega)
    rw [key]
    unfold outOf
    rw [show 512 * ((y 0).val / 512) = base by omega, show 2 * ((y 1).val / 2) = i by omega]
    exact congrArg (p base i) (ix3_congr _ _ (by omega) _ _ _)

/-- A projection with norms. -/
theorem projN_wp (base a : Nat) (ha : base = 512 * a) (hb : base + 512 ≤ 1024) (f : BufTy.Contents (Elt F) arg19.view.ty) (f' : BufTy.Contents (Elt F) arg14.view.ty)
    (fo : BufTy.Contents (Elt F) o.view.ty)
    (hf : HOk arg19 x g base 512 f) (hf' : COk arg14 x g (base + 512) 0 f') (hW : W.view.read (Elt F) Wf = w) (hS : Sr.view.read (Elt F) Sf = s) (hN : N.view.read (Elt F) Nf = nw)
    (hfo : OOk o (pairN x g w s nw) base 0 fo) :
    iprop(pt c arg19 f ∗ pt c arg14 f' ∗ pt c W Wf ∗ pt c Sr Sf ∗ pt c N Nf ∗ pt c o fo)
      ⊢ wp frame (wpE (defs₀ (F := F)) 𝒱 (c : Thread nD τ) bd) E (projN arg19 arg14 W Sr N o ho base hb)
        (fun _ => iprop(pt c arg19 f ∗ pt c arg14 f' ∗ pt c W Wf ∗ pt c Sr Sf ∗ pt c N Nf ∗ (∃ fo', pt c o fo' ∗ ⌜OOk o (pairN x g w s nw) (base + 512) 0 fo'⌝))) := by
  unfold projN
  rw [wp_bind]
  iintro ⟨HH, HC, HW, HS, HN, HO⟩
  iapply (wp_wand_r frame (wpE (defs₀ (F := F)) 𝒱 (c : Thread nD τ) bd) E)
  isplitl [HH HC HW]
  · iapply (prodStep_wp 𝒱 c bd E x g w arg19 arg14 W Wf base hb f f' hf hf' hW)
    iframe
  iintro %p ⟨HH, HC, HW, %hp⟩
  subst hp
  rw [wp_bind]
  iapply (wp_wand_r frame (wpE (defs₀ (F := F)) 𝒱 (c : Thread nD τ) bd) E)
  isplitl [HS HN]
  · iapply (headNStep_wp 𝒱 c bd E s nw Sr N Sf Nf _ _ 0 _ slices_S512x512_o0_0_S512x128 hS hN)
    iframe
  iintro %y0 ⟨HS, HN, %hy0⟩
  subst hy0
  rw [wp_bind]
  iapply (wp_wand_r frame (wpE (defs₀ (F := F)) 𝒱 (c : Thread nD τ) bd) E)
  isplitl [HS HN]
  · iapply (headNStep_wp 𝒱 c bd E s nw Sr N Sf Nf _ _ 128 _ slices_S512x512_o0_128_S512x128 hS hN)
    iframe
  iintro %y1 ⟨HS, HN, %hy1⟩
  subst hy1
  rw [wp_bind]
  iapply (wp_wand_r frame (wpE (defs₀ (F := F)) 𝒱 (c : Thread nD τ) bd) E)
  isplitl [HO]
  · iapply (pairStep_wp 𝒱 c bd E o ho base 0 hb _ _ _ _ fo)
    iexact HO
  iintro %u HO
  rw [wp_bind]
  iapply (wp_wand_r frame (wpE (defs₀ (F := F)) 𝒱 (c : Thread nD τ) bd) E)
  isplitl [HS HN]
  · iapply (headNStep_wp 𝒱 c bd E s nw Sr N Sf Nf _ _ 256 _ slices_S512x512_o0_256_S512x128 hS hN)
    iframe
  iintro %y2 ⟨HS, HN, %hy2⟩
  subst hy2
  rw [wp_bind]
  iapply (wp_wand_r frame (wpE (defs₀ (F := F)) 𝒱 (c : Thread nD τ) bd) E)
  isplitl [HS HN]
  · iapply (headNStep_wp 𝒱 c bd E s nw Sr N Sf Nf _ _ 384 _ slices_S512x512_o0_384_S512x128 hS hN)
    iframe
  iintro %y3 ⟨HS, HN, %hy3⟩
  subst hy3
  iapply (wp_wand_r frame (wpE (defs₀ (F := F)) 𝒱 (c : Thread nD τ) bd) E)
  isplitl [HO]
  · iapply (pairStep_wp 𝒱 c bd E o ho base 2 hb _ _ _ _ _)
    iexact HO
  iintro %u' HO
  iframe HH HC HW HS HN
  iexists _
  iframe HO
  ipureintro
  have h1 := OOk_step o (b := 0) (pairN x g w s nw) ha rfl hb (by omega) fo hfo
  have h2 := OOk_step o (b := 1) (pairN x g w s nw) ha rfl hb (by omega) _ h1
  intro y hy
  exact h2 y (.inr ⟨by omega, (y 1).isLt⟩)

/-- A projection without norms. -/
theorem projV_wp (base a : Nat) (ha : base = 512 * a) (hb : base + 512 ≤ 1024) (f : BufTy.Contents (Elt F) arg19.view.ty) (f' : BufTy.Contents (Elt F) arg14.view.ty)
    (fo : BufTy.Contents (Elt F) o.view.ty)
    (hf : HOk arg19 x g base 512 f) (hf' : COk arg14 x g (base + 512) 0 f') (hW : W.view.read (Elt F) Wf = w) (hS : Sr.view.read (Elt F) Sf = s)
    (hfo : OOk o (pairV x g w s) base 0 fo) :
    iprop(pt c arg19 f ∗ pt c arg14 f' ∗ pt c W Wf ∗ pt c Sr Sf ∗ pt c o fo)
      ⊢ wp frame (wpE (defs₀ (F := F)) 𝒱 (c : Thread nD τ) bd) E (projV arg19 arg14 W Sr o ho base hb)
        (fun _ => iprop(pt c arg19 f ∗ pt c arg14 f' ∗ pt c W Wf ∗ pt c Sr Sf ∗ (∃ fo', pt c o fo' ∗ ⌜OOk o (pairV x g w s) (base + 512) 0 fo'⌝))) := by
  unfold projV
  rw [wp_bind]
  iintro ⟨HH, HC, HW, HS, HO⟩
  iapply (wp_wand_r frame (wpE (defs₀ (F := F)) 𝒱 (c : Thread nD τ) bd) E)
  isplitl [HH HC HW]
  · iapply (prodStep_wp 𝒱 c bd E x g w arg19 arg14 W Wf base hb f f' hf hf' hW)
    iframe
  iintro %p ⟨HH, HC, HW, %hp⟩
  subst hp
  rw [wp_bind]
  iapply (wp_wand_r frame (wpE (defs₀ (F := F)) 𝒱 (c : Thread nD τ) bd) E)
  isplitl [HS]
  · iapply (headStep_wp 𝒱 c bd E s Sr Sf _ _ 0 _ slices_S512x512_o0_0_S512x128 hS)
    iexact HS
  iintro %y0 ⟨HS, %hy0⟩
  subst hy0
  rw [wp_bind]
  iapply (wp_wand_r frame (wpE (defs₀ (F := F)) 𝒱 (c : Thread nD τ) bd) E)
  isplitl [HS]
  · iapply (headStep_wp 𝒱 c bd E s Sr Sf _ _ 128 _ slices_S512x512_o0_128_S512x128 hS)
    iexact HS
  iintro %y1 ⟨HS, %hy1⟩
  subst hy1
  rw [wp_bind]
  iapply (wp_wand_r frame (wpE (defs₀ (F := F)) 𝒱 (c : Thread nD τ) bd) E)
  isplitl [HO]
  · iapply (pairStep_wp 𝒱 c bd E o ho base 0 hb _ _ _ _ fo)
    iexact HO
  iintro %u HO
  rw [wp_bind]
  iapply (wp_wand_r frame (wpE (defs₀ (F := F)) 𝒱 (c : Thread nD τ) bd) E)
  isplitl [HS]
  · iapply (headStep_wp 𝒱 c bd E s Sr Sf _ _ 256 _ slices_S512x512_o0_256_S512x128 hS)
    iexact HS
  iintro %y2 ⟨HS, %hy2⟩
  subst hy2
  rw [wp_bind]
  iapply (wp_wand_r frame (wpE (defs₀ (F := F)) 𝒱 (c : Thread nD τ) bd) E)
  isplitl [HS]
  · iapply (headStep_wp 𝒱 c bd E s Sr Sf _ _ 384 _ slices_S512x512_o0_384_S512x128 hS)
    iexact HS
  iintro %y3 ⟨HS, %hy3⟩
  subst hy3
  iapply (wp_wand_r frame (wpE (defs₀ (F := F)) 𝒱 (c : Thread nD τ) bd) E)
  isplitl [HO]
  · iapply (pairStep_wp 𝒱 c bd E o ho base 2 hb _ _ _ _ _)
    iexact HO
  iintro %u' HO
  iframe HH HC HW HS
  iexists _
  iframe HO
  ipureintro
  have h1 := OOk_step o (b := 0) (pairV x g w s) ha rfl hb (by omega) fo hfo
  have h2 := OOk_step o (b := 1) (pairV x g w s) ha rfl hb (by omega) _ h1
  intro y hy
  exact h2 y (.inr ⟨by omega, (y 1).isLt⟩)
end

end Cert.KernelIdeal.Gen
-- ==== Proof.K.Trip4.lean ====
module

public import proofs.«01_k».proof.Proof.K.Trip3
public import Idealize.ShloMosaic.Lib.Exec
public import Idealize.ShloMosaic.Lib.Tactic
public import Idealize.ShloMosaic.Lib.Pointwise
public import Idealize.ShloMosaic.Lib.WritesUnit
public import Idealize.ShloMosaic.Lib.Pipeline.Kit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (x : Vec F S1024x4096 .bf16) (g : Vec F S1x4096 .f32)
variable (w3 w4 w5 : Vec F S512x4096 .fp8e4m3) (s6 s7 s8 : Vec F S1x512 .f32) (n9 n10 : Vec F S1x128 .bf16)
variable (arg1 : Memref sig .tc .vmem S1024x4096 .bf16) (arg2 : Memref sig .tc .vmem S1x4096 .bf16)
  (arg3 arg4 arg5 : Memref sig .tc .vmem S512x4096 .fp8e4m3) (arg6 arg7 arg8 : Memref sig .tc .vmem S1x512 .f32) (arg9 arg10 : Memref sig .tc .vmem S1x128 .bf16)
  (arg11 : Memref sig .tc .vmem S1024x4x128 .bf16) (harg11 : arg11.IsWhole) (arg12 : Memref sig .tc .vmem S1024x4x128 .bf16) (harg12 : arg12.IsWhole)
  (arg13 : Memref sig .tc .vmem S1024x4x128 .bf16) (harg13 : arg13.IsWhole)
  (arg14 : Memref sig .tc .vmem S1024x4096 .fp8e4m3) (harg14 : arg14.IsWhole) (arg15 : Memref sig .tc .vmem S1x1x1024 .f32)
  (arg16 : Memref sig .tc .vmem S1x4096 .f32) (arg17 : Memref sig .tc .vmem S512x4096 .f32) (arg19 : Memref sig .tc .vmem S512x128 .f32)

/-! ## The whole body -/

/-- The memref `a` holds the contents `d`. -/
abbrev ow {S : Shape} {e : EltTy} (a : Memref sig .tc .vmem S e) (d : S.Idx → Elt F e) : sProp 𝕄G := owns (c : Thread nD τ) a fullShare d

/-- The inputs of the halves at their blocks. -/
def insR : sProp 𝕄G := iprop(ow c arg1 x ∗ ow c arg16 g ∗ ow c arg3 w3 ∗ ow c arg4 w4 ∗ ow c arg5 w5 ∗ ow c arg6 s6 ∗ ow c arg7 s7 ∗ ow c arg8 s8 ∗ ow c arg9 n9 ∗ ow c arg10 n10)

/-- The outputs once the rows below `base` are done, and the scratch. -/
def outsR (base : Nat) : sProp 𝕄G :=
  iprop((∃ f, pt c arg11 f ∗ ⌜OOk arg11 (pairN x g w3 s6 n9) base 0 f⌝) ∗ (∃ f, pt c arg12 f ∗ ⌜OOk arg12 (pairN x g w4 s7 n10) base 0 f⌝)
    ∗ (∃ f, pt c arg13 f ∗ ⌜OOk arg13 (pairV x g w5 s8) base 0 f⌝)
    ∗ (∃ f, pt c arg14 f ∗ ⌜COk arg14 x g base 0 f⌝) ∗ (∃ f, pt c arg15 f ∗ ⌜SOk x g arg15 base f⌝)
    ∗ (∃ f, pt c arg17 f) ∗ (∃ f, pt c arg19 f))

/-- One half of a block. -/
theorem half_wp (base a : Nat) (ha : base = 512 * a) (hb : base + 512 ≤ 1024) (h4 : 4 ∣ base) (nx : Nat) (hx : base + 512 = nx) :
    iprop(insR c x g w3 w4 w5 s6 s7 s8 n9 n10 arg1 arg3 arg4 arg5 arg6 arg7 arg8 arg9 arg10 arg16 ∗ outsR c x g w3 w4 w5 s6 s7 s8 n9 n10 arg11 arg12 arg13 arg14 arg15 arg17 arg19 base)
      ⊢ wp frame (wpE (defs₀ (F := F)) 𝒱 (c : Thread nD τ) bd) E (half arg1 arg3 arg4 arg5 arg6 arg7 arg8 arg9 arg10 arg11 harg11 arg12 harg12 arg13 harg13 arg14 harg14 arg15 arg16 arg17 arg19 base hb h4)
        (fun _ => iprop(insR c x g w3 w4 w5 s6 s7 s8 n9 n10 arg1 arg3 arg4 arg5 arg6 arg7 arg8 arg9 arg10 arg16 ∗ outsR c x g w3 w4 w5 s6 s7 s8 n9 n10 arg11 arg12 arg13 arg14 arg15 arg17 arg19 nx)) := by
  subst hx
  unfold insR outsR half ow owns
  iintro ⟨⟨⟨%X, %hX, HX⟩, ⟨%G, %hG, HG⟩, ⟨%W3, %hW3, HW3⟩, ⟨%W4, %hW4, HW4⟩, ⟨%W5, %hW5, HW5⟩, ⟨%S6, %hS6, HS6⟩, ⟨%S7, %hS7, HS7⟩, ⟨%S8, %hS8, HS8⟩, ⟨%N9, %hN9, HN9⟩, ⟨%N10, %hN10, HN10⟩⟩, ⟨%f11, H11, %h11⟩, ⟨%f12, H12, %h12⟩, ⟨%f13, H13, %h13⟩, ⟨%f14, H14, %h14⟩, ⟨%f15, H15, %h15⟩, ⟨%f17, H17⟩, ⟨%f19, H19⟩⟩
  rw [wp_bind]
  iapply (wp_wand_r frame (wpE (defs₀ (F := F)) 𝒱 (c : Thread nD τ) bd) E)
  isplitl [HX HG H17 H19 H14]
  · have := grpLoop_wp 𝒱 c bd E x g arg1 arg16 arg17 arg19 arg14 harg14 X G base hb h4 (by omega) hX hG 16 0 512 (by omega) (by omega) (by omega) (by omega) f17 f14 f19 h14 (fun y h => absurd h (Nat.not_lt_zero _))
    iapply this
    iframe
  iintro %u1 ⟨HX, HG, H17, ⟨%f19, H19, %h19⟩, ⟨%f14, H14, %h14⟩⟩
  rw [wp_bind]
  iapply (wp_wand_r frame (wpE (defs₀ (F := F)) 𝒱 (c : Thread nD τ) bd) E)
  isplitl [H19 H15]
  · have := diagLoop_wp 𝒱 c bd E x g arg19 arg15 base hb (by omega) f19 h19 4 0 512 (by omega) (by omega) (by omega) f15 h15
    iapply this
    iframe
  iintro %u2 ⟨H19, ⟨%f15, H15, %h15⟩⟩
  rw [wp_bind]
  iapply (wp_wand_r frame (wpE (defs₀ (F := F)) 𝒱 (c : Thread nD τ) bd) E)
  isplitl [H19 H14 HW3 HS6 HN9 H11]
  · have := projN_wp 𝒱 c bd E x g w3 s6 n9 arg19 arg14 arg3 arg6 arg9 arg11 harg11 W3 S6 N9 base a ha hb f19 f14 f11 h19 h14 hW3 hS6 hN9 h11
    iapply this
    iframe
  iintro %v0 ⟨H19, H14, HW3, HS6, HN9, H11⟩
  rw [wp_bind]
  iapply (wp_wand_r frame (wpE (defs₀ (F := F)) 𝒱 (c : Thread nD τ) bd) E)
  isplitl [H19 H14 HW4 HS7 HN10 H12]
  · have := projN_wp 𝒱 c bd E x g w4 s7 n10 arg19 arg14 arg4 arg7 arg10 arg12 harg12 W4 S7 N10 base a ha hb f19 f14 f12 h19 h14 hW4 hS7 hN10 h12
    iapply this
    iframe
  iintro %v1 ⟨H19, H14, HW4, HS7, HN10, H12⟩
  iapply (wp_wand_r frame (wpE (defs₀ (F := F)) 𝒱 (c : Thread nD τ) bd) E)
  isplitl [H19 H14 HW5 HS8 H13]
  · have := projV_wp 𝒱 c bd E x g w5 s8 arg19 arg14 arg5 arg8 arg13 harg13 W5 S8 base a ha hb f19 f14 f13 h19 h14 hW5 hS8 h13
    iapply this
    iframe
  iintro %v3 ⟨H19, H14, HW5, HS8, H13⟩
  isplitl [HX HG HW3 HW4 HW5 HS6 HS7 HS8 HN9 HN10]
  · isplitl [HX]
    · iexists X
      iframe HX
      ipureintro
      exact hX
    isplitl [HG]
    · iexists G
      iframe HG
      ipureintro
      exact hG
    isplitl [HW3]
    · iexists W3
      iframe HW3
      ipureintro
      exact hW3
    isplitl [HW4]
    · iexists W4
      iframe HW4
      ipureintro
      exact hW4
    isplitl [HW5]
    · iexists W5
      iframe HW5
      ipureintro
      exact hW5
    isplitl [HS6]
    · iexists S6
      iframe HS6
      ipureintro
      exact hS6
    isplitl [HS7]
    · iexists S7
      iframe HS7
      ipureintro
      exact hS7
    isplitl [HS8]
    · iexists S8
      iframe HS8
      ipureintro
      exact hS8
    isplitl [HN9]
    · iexists N9
      iframe HN9
      ipureintro
      exact hN9
    iexists N10
    iframe HN10
    ipureintro
    exact hN10
  iframe H11 H12 H13 H17
  isplitl [H14]
  · iexists f14
    iframe H14
    ipureintro
    exact h14
  isplitl [H15]
  · iexists f15
    iframe H15
    ipureintro
    exact h15
  · iexists f19
    iexact H19

/-- Both halves of a block. -/
theorem halves_wp :
    iprop(insR c x g w3 w4 w5 s6 s7 s8 n9 n10 arg1 arg3 arg4 arg5 arg6 arg7 arg8 arg9 arg10 arg16 ∗ outsR c x g w3 w4 w5 s6 s7 s8 n9 n10 arg11 arg12 arg13 arg14 arg15 arg17 arg19 0)
      ⊢ wp frame (wpE (defs₀ (F := F)) 𝒱 (c : Thread nD τ) bd) E (halves arg1 arg3 arg4 arg5 arg6 arg7 arg8 arg9 arg10 arg11 harg11 arg12 harg12 arg13 harg13 arg14 harg14 arg15 arg16 arg17 arg19)
        (fun _ => iprop(insR c x g w3 w4 w5 s6 s7 s8 n9 n10 arg1 arg3 arg4 arg5 arg6 arg7 arg8 arg9 arg10 arg16 ∗ outsR c x g w3 w4 w5 s6 s7 s8 n9 n10 arg11 arg12 arg13 arg14 arg15 arg17 arg19 1024)) := by
  unfold halves
  rw [wp_bind]
  have e1 := half_wp 𝒱 c bd E x g w3 w4 w5 s6 s7 s8 n9 n10 arg1 arg3 arg4 arg5 arg6 arg7 arg8 arg9 arg10 arg11 harg11 arg12 harg12 arg13 harg13 arg14 harg14 arg15 arg16 arg17 arg19 0 0 rfl (by omega) (by omega) 512 rfl
  have e2 := half_wp 𝒱 c bd E x g w3 w4 w5 s6 s7 s8 n9 n10 arg1 arg3 arg4 arg5 arg6 arg7 arg8 arg9 arg10 arg11 harg11 arg12 harg12 arg13 harg13 arg14 harg14 arg15 arg16 arg17 arg19 512 1 rfl (by omega) (by omega) 1024 rfl
  iintro HH
  iapply (wp_wand_r frame (wpE (defs₀ (F := F)) 𝒱 (c : Thread nD τ) bd) E)
  isplitl [HH]
  · iapply e1
    iexact HH
  iintro %a HH
  iapply e2
  iexact HH

/-- The gain as f32. -/
def gOf (v : Vec F S1x4096 .bf16) : Vec F S1x4096 .f32 := extf .f32 v bitsLt_bf16_f32

/-- The widening of the gain. -/
theorem gain_wp (v : Vec F S1x4096 .bf16) :
    iprop(ow c arg2 v ∗ (∃ d, ow c arg16 d))
      ⊢ wp frame (wpE (defs₀ (F := F)) 𝒱 (c : Thread nD τ) bd) E (gain arg2 arg16)
        (fun _ => iprop(ow c arg2 v ∗ ow c arg16 (gOf v))) := by
  unfold ow owns
  iintro ⟨⟨%A, %hA, HA⟩, ⟨%d, %B, %hB, HB⟩⟩
  have e : arg2.view.readAt (Elt F) (Rect.unit (s := S1x4096) ![0, 0] S1x4096.size inbG1).toLoadRect A = v := by
    subst hA
    funext y
    show arg2.view.read (Elt F) A _ = arg2.view.read (Elt F) A _
    congr 1
    funext a
    apply Fin.ext
    fin_cases a
    · show 0 + 1 * (y 0).val = (y 0).val; omega
    · show 0 + 1 * (y 1).val = (y 1).val; omega
  unfold gain
  sl_exec
  sl_step
  isplitl [HA]
  · iexists A
    iframe HA
    ipureintro
    exact hA
  · iexists _
    iframe HB
    ipureintro
    funext y
    refine (View.read_writes_cons_unit_of_mem arg16.view B inbG1 _ [] y y rfl ?_).trans ?_
    · intro a; fin_cases a
      · show (y 0).val = 0 + (y 0).val; omega
      · show (y 1).val = 0 + (y 1).val; omega
    · rw [shapeCast_id, shapeCast_id]
      rfl

/-! ## The body, in the form the pipeline calls it -/

/-- The codes of a block. -/
def codesB : Vec F S1024x4096 .fp8e4m3 := fun y => codeAt x g (y 0).val (y 1).val
/-- The scales of a block. -/
def scalesB : Vec F S1x1x1024 .f32 := fun y => scOut x g (y 2).val

/-- The outputs' contents after the body, and the scratch. -/
def outsF : sProp 𝕄G :=
  iprop(ow c arg11 (outOf (pairN x g w3 s6 n9)) ∗ ow c arg12 (outOf (pairN x g w4 s7 n10)) ∗ ow c arg13 (outOf (pairV x g w5 s8))
    ∗ ow c arg14 (codesB x g) ∗ ow c arg15 (scalesB x g) ∗ (∃ d, ow c arg17 d) ∗ (∃ d, ow c arg19 d))

/-- The outputs and the scratch at anything. -/
def outsA : sProp 𝕄G :=
  iprop((∃ d, ow c arg11 d) ∗ (∃ d, ow c arg12 d) ∗ (∃ d, ow c arg13 d) ∗ (∃ d, ow c arg14 d) ∗ (∃ d, ow c arg15 d) ∗ (∃ d, ow c arg17 d) ∗ (∃ d, ow c arg19 d))

/-- The outputs before the halves. -/
theorem outsA_outsR : (outsA c arg11 arg12 arg13 arg14 arg15 arg17 arg19 : sProp 𝕄G) ⊢ outsR c x g w3 w4 w5 s6 s7 s8 n9 n10 arg11 arg12 arg13 arg14 arg15 arg17 arg19 0 := by
  unfold outsA outsR ow owns
  iintro ⟨⟨%d11, %f11, %h11, H11⟩, ⟨%d12, %f12, %h12, H12⟩, ⟨%d13, %f13, %h13, H13⟩, ⟨%d14, %f14, %h14, H14⟩, ⟨%d15, %f15, %h15, H15⟩, ⟨%d17, %f17, %h17, H17⟩, ⟨%d19, %f19, %h19, H19⟩⟩
  isplitl [H11]
  · iexists f11
    iframe H11
    ipureintro
    exact fun y h => by omega
  isplitl [H12]
  · iexists f12
    iframe H12
    ipureintro
    exact fun y h => by omega
  isplitl [H13]
  · iexists f13
    iframe H13
    ipureintro
    exact fun y h => by omega
  isplitl [H14]
  · iexists f14
    iframe H14
    ipureintro
    exact fun y h => by omega
  isplitl [H15]
  · iexists f15
    iframe H15
    ipureintro
    exact fun y h => absurd h (Nat.not_lt_zero _)
  isplitl [H17]
  · iexists f17
    iexact H17
  · iexists f19
    iexact H19

/-- The outputs after the halves. -/
theorem outsR_outsF : outsR c x g w3 w4 w5 s6 s7 s8 n9 n10 arg11 arg12 arg13 arg14 arg15 arg17 arg19 1024 ⊢ (outsF c x g w3 w4 w5 s6 s7 s8 n9 n10 arg11 arg12 arg13 arg14 arg15 arg17 arg19 : sProp 𝕄G) := by
  unfold outsF outsR ow owns
  iintro ⟨⟨%f11, H11, %h11⟩, ⟨%f12, H12, %h12⟩, ⟨%f13, H13, %h13⟩, ⟨%f14, H14, %h14⟩, ⟨%f15, H15, %h15⟩, ⟨%f17, H17⟩, ⟨%f19, H19⟩⟩
  isplitl [H11]
  · iexists f11
    iframe H11
    ipureintro
    exact funext fun y => h11 y (.inl (y 0).isLt)
  isplitl [H12]
  · iexists f12
    iframe H12
    ipureintro
    exact funext fun y => h12 y (.inl (y 0).isLt)
  isplitl [H13]
  · iexists f13
    iframe H13
    ipureintro
    exact funext fun y => h13 y (.inl (y 0).isLt)
  isplitl [H14]
  · iexists f14
    iframe H14
    ipureintro
    exact funext fun y => h14 y (.inl (y 0).isLt)
  isplitl [H15]
  · iexists f15
    iframe H15
    ipureintro
    exact funext fun y => h15 y (y 2).isLt
  isplitl [H17]
  · iexists _, f17
    iframe H17
    ipureintro
    rfl
  · iexists _, f19
    iframe H19
    ipureintro
    rfl

/-- The halves, from the buffers a point starts with. -/
theorem halves_run :
    iprop(insR c x g w3 w4 w5 s6 s7 s8 n9 n10 arg1 arg3 arg4 arg5 arg6 arg7 arg8 arg9 arg10 arg16 ∗ outsA c arg11 arg12 arg13 arg14 arg15 arg17 arg19)
      ⊢ wp frame (wpE (defs₀ (F := F)) 𝒱 (c : Thread nD τ) bd) E (halves arg1 arg3 arg4 arg5 arg6 arg7 arg8 arg9 arg10 arg11 harg11 arg12 harg12 arg13 harg13 arg14 harg14 arg15 arg16 arg17 arg19)
        (fun _ => iprop(insR c x g w3 w4 w5 s6 s7 s8 n9 n10 arg1 arg3 arg4 arg5 arg6 arg7 arg8 arg9 arg10 arg16 ∗ outsF c x g w3 w4 w5 s6 s7 s8 n9 n10 arg11 arg12 arg13 arg14 arg15 arg17 arg19)) := by
  have h1 := outsA_outsR c x g w3 w4 w5 s6 s7 s8 n9 n10 arg11 arg12 arg13 arg14 arg15 arg17 arg19
  have h2 := outsR_outsF c x g w3 w4 w5 s6 s7 s8 n9 n10 arg11 arg12 arg13 arg14 arg15 arg17 arg19
  have h3 := halves_wp 𝒱 c bd E x g w3 w4 w5 s6 s7 s8 n9 n10 arg1 arg3 arg4 arg5 arg6 arg7 arg8 arg9 arg10 arg11 harg11 arg12 harg12 arg13 harg13 arg14 harg14 arg15 arg16 arg17 arg19
  refine (sep_mono_r h1).trans (h3.trans (wp_mono _ _ _ fun a => sep_mono_r h2))

end Cert.KernelIdeal.Gen
-- ==== Proof.K.KRun.lean ====
module

public import proofs.«01_k».proof.Proof.Gen.KernelIdeal.Frame.Runs
public import proofs.«01_k».proof.Proof.K.Bridge1
public import proofs.«01_k».proof.Proof.K.Trip4
public import Idealize.ShloMosaic.Lib.Claim

@[expose] public section

set_option maxRecDepth 16384

noncomputable section

namespace Cert.KernelIdeal.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at each point -/

/-- The first grid point. -/
def t0 : Fin cfg0.N := ⟨0, by decide⟩

/-- The gain as f32: what the scratch carries from the first point on. -/
def gK (c : Dev nD) : Vec F S1x4096 .f32 := gOf (iblk m c 1 t0)

/-- The block of query heads written at point `t`. -/
def qB (c : Dev nD) (t : Fin cfg0.N) : Vec F S1024x4x128 .bf16 := outOf (pairN (iblk m c 0 t) (gK m c) (iblk m c 2 t) (iblk m c 5 t) (iblk m c 8 t))
/-- The block of key heads written at point `t`. -/
def kB (c : Dev nD) (t : Fin cfg0.N) : Vec F S1024x4x128 .bf16 := outOf (pairN (iblk m c 0 t) (gK m c) (iblk m c 3 t) (iblk m c 6 t) (iblk m c 9 t))
/-- The block of value heads written at point `t`. -/
def vB (c : Dev nD) (t : Fin cfg0.N) : Vec F S1024x4x128 .bf16 := outOf (pairV (iblk m c 0 t) (gK m c) (iblk m c 4 t) (iblk m c 7 t))
/-- The block of codes written at point `t`. -/
def cB (c : Dev nD) (t : Fin cfg0.N) : Vec F S1024x4096 .fp8e4m3 := codesB (iblk m c 0 t) (gK m c)
/-- The block of scales written at point `t`. -/
def sB (c : Dev nD) (t : Fin cfg0.N) : Vec F S1x1x1024 .f32 := scalesB (iblk m c 0 t) (gK m c)

/-- The region invariant before point `n`: every scratch at anything before the first point; afterwards the gain's scratch
    at the widened gain, the others at anything. -/
def PhiS (c : Dev nD) : (n : ℕ) → n ≤ cfg0.N → sProp 𝕄
  | 0, _ => Pipeline.ΦA spec0 c
  | n + 1, hn => iprop(iprop(owns (c : Thread nD τ) scM0_0 fullShare (gK m c) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- The carried state before the first point. -/
theorem PhiS_zero (c : Dev nD) (n : ℕ) (h : n ≤ cfg0.N) (hz : n = 0) : PhiS m c n h = Pipeline.ΦA spec0 c := by
  subst hz; rfl

/-- The carried state after a point. -/
theorem PhiS_pos (c : Dev nD) (n : ℕ) (h : n ≤ cfg0.N) (hz : n ≠ 0) :
    PhiS m c n h = iprop(iprop(owns (c : Thread nD τ) scM0_0 fullShare (gK m c) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => qB m c t
    | ⟨11, _⟩ => kB m c t
    | ⟨12, _⟩ => vB m c t
    | ⟨13, _⟩ => cB m c t
    | ⟨14, _⟩ => sB m c t
  Φ t := PhiS m c t.val (Nat.le_of_lt_succ t.isLt)
  q _ := fullShare
  owed _ := 0

/-- The arrays a region starts with. -/
theorem A_eq (c : Dev nD) (w : Fin cfg0.W) : (dats m 0 c).A w = V m c (Pipeline.arrRef spec0 w) := by
  dsimp only [dats]

/-- The carried state before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = qB m c t := by dsimp only [dats]
/-- What window 11 holds after a point. -/
theorem after0_11 (c : Dev nD) (t : Fin cfg0.N) : (dats m 0 c).after 11 t = kB m c t := by dsimp only [dats]
/-- What window 12 holds after a point. -/
theorem after0_12 (c : Dev nD) (t : Fin cfg0.N) : (dats m 0 c).after 12 t = vB m c t := by dsimp only [dats]
/-- What window 13 holds after a point. -/
theorem after0_13 (c : Dev nD) (t : Fin cfg0.N) : (dats m 0 c).after 13 t = cB m c t := by dsimp only [dats]
/-- What window 14 holds after a point. -/
theorem after0_14 (c : Dev nD) (t : Fin cfg0.N) : (dats m 0 c).after 14 t = sB m c t := by dsimp only [dats]

/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What window 7 holds before a point. -/
theorem before0_7 (c : Dev nD) (t : Fin cfg0.N) (d) : (dats m 0 c).before 7 t d = iblk m c 7 t :=
  before0_7_of m (dats m 0 c) (A_eq m c 7) (after0_7 m c) t d
/-- What window 8 holds before a point. -/
theorem before0_8 (c : Dev nD) (t : Fin cfg0.N) (d) : (dats m 0 c).before 8 t d = iblk m c 8 t :=
  before0_8_of m (dats m 0 c) (A_eq m c 8) (after0_8 m c) t d
/-- What window 9 holds before a point. -/
theorem before0_9 (c : Dev nD) (t : Fin cfg0.N) (d) : (dats m 0 c).before 9 t d = iblk m c 9 t :=
  before0_9_of m (dats m 0 c) (A_eq m c 9) (after0_9 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

/-- The conditional at the head of the body, first point: the gain is widened into the scratch. -/
theorem prologue_pos (c : Dev nD) (t : Fin cfg0.N) (h0 : t.val % 32 = 0) (arg2 : Memref sig .tc .vmem S1x4096 .bf16) (arg16 : Memref sig .tc .vmem S1x4096 .f32) :
    prologue (F := F) arg2 arg16 (grid0.coords t) = gain arg2 arg16 := by
  unfold prologue
  exact dif_pos ((hcond0_0 t).mpr h0)

/-- The same at a later point: nothing is done. -/
theorem prologue_neg (c : Dev nD) (t : Fin cfg0.N) (h0 : ¬t.val % 32 = 0) (arg2 : Memref sig .tc .vmem S1x4096 .bf16) (arg16 : Memref sig .tc .vmem S1x4096 .f32) :
    prologue (F := F) arg2 arg16 (grid0.coords t) = Pure.pure ⟨⟩ := by
  unfold prologue
  exact dif_neg fun h => h0 ((hcond0_0 t).mp h)

/-- The body at a point meets its specification. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_pos m c _ _ (Nat.succ_ne_zero _), PhiS_castSucc m c t, cc0_eq]
  have hN : t.val < 32 := lt_of_lt_of_eq t.isLt (show cfg0.N = 32 from N_0)
  have hH := halves_run Variants.none c none Set.univ (iblk m c 0 t) (gK m c) (iblk m c 2 t) (iblk m c 3 t) (iblk m c 4 t) (iblk m c 5 t) (iblk m c 6 t) (iblk m c 7 t) (iblk m c 8 t) (iblk m c 9 t) (ms0_0 t) (ms0_2 t) (ms0_3 t) (ms0_4 t) (ms0_5 t) (ms0_6 t) (ms0_7 t) (ms0_8 t) (ms0_9 t) (ms0_10 t) (hs0_10 t) (ms0_11 t) (hs0_11 t) (ms0_12 t) (hs0_12 t) (ms0_13 t) (hs0_13 t) (ms0_14 t) scM0_0 scM0_1 scM0_3
  unfold insR outsA outsF at hH
  have key : iprop(iprop(owns (c : Thread nD τ) scM0_0 fullShare (gK m c) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) = PhiS m c (t.val + 1) t.isLt := rfl
  rw [wp_bind]
  by_cases h0 : t.val % 32 = 0
  · have hz : t.val = 0 := by omega
    have ht : t = t0 := Fin.ext hz
    rw [PhiS_zero m c _ _ hz, PhiA0_eq, prologue_pos c t h0]
    have hg := gain_wp Variants.none c none Set.univ (ms0_1 t) scM0_0 (iblk m c 1 t)
    rw [show gOf (iblk m c 1 t) = gK m c by rw [ht]; rfl] at hg
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (wp_wand_r frame (wpE (defs₀ (F := F)) Variants.none (c : Thread nD τ) none) Set.univ)
    isplitl [HS0 H1]
    · iapply hg
      isplitl [H1]
      · iexact H1
      · iexact HS0
    iintro %u0 ⟨H1, HS0⟩
    iapply (wp_wand_r frame (wpE (defs₀ (F := F)) Variants.none (c : Thread nD τ) none) Set.univ)
    isplitl [H0 HS0 H2 H3 H4 H5 H6 H7 H8 H9 H10 H11 H12 H13 H14 HS1 HS3]
    · iapply hH
      isplitl [H0 HS0 H2 H3 H4 H5 H6 H7 H8 H9]
      · iframe
      isplitl [H10]
      · iexists _
        iexact H10
      isplitl [H11]
      · iexists _
        iexact H11
      isplitl [H12]
      · iexists _
        iexact H12
      isplitl [H13]
      · iexists _
        iexact H13
      isplitl [H14]
      · iexists _
        iexact H14
      isplitl [HS1]
      · iexact HS1
      · iexact HS3
    iintro %u1 ⟨⟨H0, HS0, H2, H3, H4, H5, H6, H7, H8, H9⟩, H10, H11, H12, H13, H14, HS1, HS3⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hz : t.val ≠ 0 := fun e => h0 (by rw [e])
    rw [PhiS_pos m c _ _ hz, prologue_neg c t h0]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    sl_step
    iapply (wp_wand_r frame (wpE (defs₀ (F := F)) Variants.none (c : Thread nD τ) none) Set.univ)
    isplitl [H0 HS0 H2 H3 H4 H5 H6 H7 H8 H9 H10 H11 H12 H13 H14 HS1 HS3]
    · iapply hH
      isplitl [H0 HS0 H2 H3 H4 H5 H6 H7 H8 H9]
      · iframe
      isplitl [H10]
      · iexists _
        iexact H10
      isplitl [H11]
      · iexists _
        iexact H11
      isplitl [H12]
      · iexists _
        iexact H12
      isplitl [H13]
      · iexists _
        iexact H13
      isplitl [H14]
      · iexists _
        iexact H14
      isplitl [HS1]
      · iexact HS1
      · iexact HS3
    iintro %u1 ⟨⟨H0, HS0, H2, H3, H4, H5, H6, H7, H8, H9⟩, H10, H11, H12, H13, H14, HS1, HS3⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The definition that a point calls. -/
theorem defs₀_row (t : Fin cfg0.N) :
    defs₀ (F := F) .tc cfg0.body (cfg0.bodyArgs t (cfg0.slots t)) = bodyAt0 t := by
  unfold defs₀; rw [Defs.onTc_tc]

/-- The body meets its specification at each point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The carried state at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The carried state gives back the scratch buffers. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The carried state at the end. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The launch: every array of the pipeline ends at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with every array as described. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.K

end
-- ==== Proof.V.Expo.lean ====
/- The exponent of a row: the number of powers of two that a magnitude reaches is one more than the floor of its
   binary logarithm, and the two powers of two built from it. -/
module

public import Idealize.ShloMosaic.PureOps.Ideal.Laws
public import Idealize.ShloMosaic.Lib.Pointwise

@[expose] public section

set_option maxRecDepth 16384

noncomputable section

namespace Cert.Row

open Idealize.ShloMosaic

/-! ## Constants -/

/-- The float 4096. -/
theorem c4096 : Ideal.ofBits .f32 0x45800000#32 = ((4096 : ℝ) : EReal) := by
  simp [Ideal.ofBits, Ideal.ieee, -EReal.coe_mul]; norm_num
/-- The float 1/4096. -/
theorem c4096inv : Ideal.ofBits .f32 0x39800000#32 = ((1 / 4096 : ℝ) : EReal) := by
  simp [Ideal.ofBits, Ideal.ieee, -EReal.coe_mul]; norm_num
/-- The float near 10^-6. -/
theorem cEps : Ideal.ofBits .f32 0x358637BD#32 = ((8796093 / 2 ^ 43 : ℝ) : EReal) := by
  simp [Ideal.ofBits, Ideal.ieee, -EReal.coe_mul]; norm_num
/-- The float near 1/448. -/
theorem c448inv : Ideal.ofBits .f32 0x3B124925#32 = ((9586981 / 2 ^ 32 : ℝ) : EReal) := by
  simp [Ideal.ofBits, Ideal.ieee, -EReal.coe_mul]; norm_num
/-- The largest finite float. -/
theorem cMax : Ideal.ofBits .f32 0x7F7FFFFF#32 = (((2 ^ 24 - 1) * 2 ^ 104 : ℝ) : EReal) := by
  simp [Ideal.ofBits, Ideal.ieee, -EReal.coe_mul]; norm_num
/-- The float -∞. -/
theorem cBot : Ideal.ofBits .f32 0xFF800000#32 = ⊥ := by
  simp [Ideal.ofBits, Ideal.ieee]
/-- The float +∞. -/
theorem cTop : Ideal.ofBits .f32 0x7F800000#32 = ⊤ := by
  simp [Ideal.ofBits, Ideal.ieee]
/-- The lower bound of the range. -/
theorem cLo : Ideal.ofBits .f32 0x09800000#32 = (((2 : ℝ) ^ (-108 : ℤ) : ℝ) : EReal) := by
  simp [Ideal.ofBits, Ideal.ieee, -EReal.coe_mul]; norm_num
/-! ## The floats whose bits are an exponent field -/

/-- A field shifted into place, as a number. -/
theorem shl_toNat (w : BitVec 32) (h : w.toNat < 256) : (IntOp.shli .vector w 23#32).toNat = w.toNat * 2 ^ 23 := by
  have : IntOp.shli .vector w 23#32 = w <<< 23 := by
    unfold IntOp.shli
    rw [if_pos (by decide)]
    rfl
  rw [this, BitVec.toNat_shiftLeft, Nat.shiftLeft_eq]
  omega

/-- The float of a field. -/
theorem field (w : BitVec 32) (h : w.toNat < 256) :
    ((IntOp.shli .vector w 23#32).extractLsb' 31 1 == 1#1) = false
    ∧ ((IntOp.shli .vector w 23#32).extractLsb' 23 8).toNat = w.toNat
    ∧ ((IntOp.shli .vector w 23#32).extractLsb' 0 23).toNat = 0 := by
  have e := shl_toNat w h
  refine ⟨?_, ?_, ?_⟩
  · rw [beq_eq_false_iff_ne]
    intro h'
    have := congrArg BitVec.toNat h'
    rw [BitVec.extractLsb'_toNat, e, Nat.shiftRight_eq_div_pow] at this
    simp at this
    omega
  · rw [BitVec.extractLsb'_toNat, e, Nat.shiftRight_eq_div_pow]
    omega
  · rw [BitVec.extractLsb'_toNat, e, Nat.shiftRight_eq_div_pow]
    omega

/-- The float of a field strictly inside is a power of two. -/
theorem pow_of_field (w : BitVec 32) (h1 : 1 ≤ w.toNat) (h2 : w.toNat ≤ 254) :
    Ideal.ofBits .f32 (IntOp.shli .vector w 23#32) = (((2 : ℝ) ^ ((w.toNat : ℤ) - 127) : ℝ) : EReal) := by
  obtain ⟨a, b, c⟩ := field w (by omega)
  show Ideal.ieee 8 23 _ = _
  unfold Ideal.ieee
  simp only [Nat.reduceAdd] at a b c ⊢
  simp only [a, b, c]
  rw [if_neg (by norm_num; omega), if_neg (by omega)]
  simp only [Bool.false_eq_true, if_false]
  refine congrArg (fun r : ℝ => (r : EReal)) ?_
  have : ((w.toNat : ℤ) - 127) = 23 + ((w.toNat : ℤ) - (2 ^ (8 - 1) - 1) - 23) := by norm_num
  rw [this, zpow_add₀ (by norm_num)]
  norm_num

/-- The upper bound of the range. -/
theorem cHi : Ideal.ofBits .f32 0x7F000000#32 = (((2 : ℝ) ^ (127 : ℤ) : ℝ) : EReal) := by
  have h := pow_of_field 254#32 (by decide) (by decide)
  have e : IntOp.shli .vector 254#32 23#32 = 0x7F000000#32 := by decide
  rw [e] at h
  rw [h]
  norm_num

/-- The float of field zero. -/
theorem zero_of_field (w : BitVec 32) (h : w.toNat = 0) : Ideal.ofBits .f32 (IntOp.shli .vector w 23#32) = 0 := by
  obtain ⟨a, b, c⟩ := field w (by omega)
  show Ideal.ieee 8 23 _ = _
  unfold Ideal.ieee
  simp only [Nat.reduceAdd] at a b c ⊢
  simp only [a, b, c, h]
  norm_num

/-- The float of the last field. -/
theorem top_of_field (w : BitVec 32) (h : w.toNat = 255) : Ideal.ofBits .f32 (IntOp.shli .vector w 23#32) = ⊤ := by
  obtain ⟨a, b, c⟩ := field w (by omega)
  show Ideal.ieee 8 23 _ = _
  unfold Ideal.ieee
  simp only [Nat.reduceAdd] at a b c ⊢
  simp only [a, b, c, h]
  norm_num

/-! ## The count -/

/-- Adding up zeros and ones counts the ones. -/
theorem fold_count {ι : Type} [DecidableEq ι] (p : ι → Prop) [DecidablePred p] (s : Finset ι) :
    Finset.fold IntOp.addi (0#32) (fun j => BitVec.setWidth 32 (BitVec.ofBool (decide (p j)))) s = BitVec.ofNat 32 (s.filter p).card := by
  induction s using Finset.induction with
  | empty => rfl
  | insert a s ha ih =>
    rw [Finset.fold_insert ha, ih, Finset.filter_insert]
    by_cases h : p a
    · rw [if_pos h, Finset.card_insert_of_notMem (by simp [ha]), Nat.add_comm, BitVec.ofNat_add]
      simp [h, IntOp.addi]
    · rw [if_neg h]
      simp [h, IntOp.addi]

/-- The exponent that the kernel computes from a row's largest magnitude over 448. -/
def kE (t : EReal) : BitVec 32 :=
  Scalar.select
      (IntOp.ori
        (IntOp.ori (BitVec.ofBool (decide (t = 0))) (BitVec.ofBool (decide (t = Ideal.ofBits FTy.f32 0x7F800000#32))))
        (BitVec.ofBool (decide (t ≠ t))))
      (0#32)
      (IntOp.subi
        (Finset.fold IntOp.addi (0#32)
          (fun x : Fin 256 => BitVec.setWidth 32 (BitVec.ofBool (decide
                (Ideal.ofBits FTy.f32 (IntOp.shli ArithUnit.vector (BitVec.ofNat 32 ↑x) 23#32) ≤ t))))
          Finset.univ)
        127#32)

/-- The exponent of the reference, of a row's largest magnitude. -/
def rE (ln2 a : EReal) : EReal :=
  if a = 0 then 0 else Ideal.liftRound Int.floor (Ideal.div (Ideal.log (a * Ideal.ofBits FTy.f32 0x3B124925#32)) ln2) + 1

/-- The kernel's exponent of zero. -/
theorem kE_zero : kE 0 = 0#32 := by
  have h : ∀ x : BitVec 1, 1#1 ||| x = 1#1 := by decide
  unfold kE
  simp [Scalar.select, IntOp.ori, h]

/-- The kernel's exponent of a number in range. -/
theorem kE_coe (τ : ℝ) (m : ℕ) (h1 : 1 ≤ m) (h2 : m ≤ 253) (hlo : (2 : ℝ) ^ ((m : ℤ) - 127) ≤ τ) (hhi : τ < (2 : ℝ) ^ ((m : ℤ) - 126)) :
    kE (τ : EReal) = BitVec.ofNat 32 (m + 1) - 127#32 := by
  have hpos : 0 < τ := lt_of_lt_of_le (by positivity) hlo
  unfold kE
  rw [fold_count]
  have hc : (Finset.univ.filter fun x : Fin 256 => Ideal.ofBits FTy.f32 (IntOp.shli ArithUnit.vector (BitVec.ofNat 32 ↑x) 23#32) ≤ (τ : EReal))
      = Finset.univ.filter fun x : Fin 256 => x.val < m + 1 := by
    refine Finset.filter_congr fun x _ => ?_
    have hx : (BitVec.ofNat 32 x.val).toNat = x.val := by
      rw [BitVec.toNat_ofNat]; exact Nat.mod_eq_of_lt (by omega)
    rcases Nat.eq_zero_or_pos x.val with h0 | h0
    · rw [zero_of_field _ (by omega)]
      constructor
      · intro _; omega
      · intro _; exact_mod_cast hpos.le
    · rcases Nat.lt_or_ge x.val 255 with h5 | h5
      · rw [pow_of_field _ (by omega) (by omega), hx, EReal.coe_le_coe_iff]
        constructor
        · intro h
          have := lt_of_le_of_lt h hhi
          rw [zpow_lt_zpow_iff_right₀ (by norm_num)] at this
          omega
        · intro h
          refine le_trans ?_ hlo
          rw [zpow_le_zpow_iff_right₀ (by norm_num)]
          omega
      · rw [top_of_field _ (by omega)]
        constructor
        · intro h; exact absurd h (by simp)
        · intro h; omega
  rw [hc, Fin.card_filter_val_lt, Nat.min_eq_right (by omega)]
  have t0 : ¬ ((τ : EReal) = 0) := by exact_mod_cast hpos.ne'
  have tt : ¬ ((τ : EReal) = ⊤) := EReal.coe_ne_top _
  simp [cTop, t0, Scalar.select, IntOp.ori, IntOp.subi]

/-- The reference's exponent of zero. -/
theorem rE_zero (ln2 : EReal) : rE ln2 0 = 0 := by simp [rE]

/-- The floor of the binary logarithm. -/
def flog (τ : ℝ) : ℤ := ⌊Real.log τ / Real.log 2⌋

/-- Two to the floored logarithm is at most the number. -/
theorem flog_le (τ : ℝ) (h : 0 < τ) : (2 : ℝ) ^ flog τ ≤ τ := by
  have l2 : 0 < Real.log 2 := Real.log_pos (by norm_num)
  rw [← Real.log_le_log_iff (by positivity) h, Real.log_zpow, ← le_div_iff₀ l2]
  exact Int.floor_le _

/-- Two to the next exponent is above the number. -/
theorem lt_flog (τ : ℝ) (h : 0 < τ) : τ < (2 : ℝ) ^ (flog τ + 1) := by
  have l2 : 0 < Real.log 2 := Real.log_pos (by norm_num)
  rw [← Real.log_lt_log_iff h (by positivity), Real.log_zpow, ← div_lt_iff₀ l2]
  push_cast
  exact Int.lt_floor_add_one _

/-- The reference's exponent of a number in range. -/
theorem rE_coe (α : ℝ) (h : 0 < α) :
    rE ((Real.log 2 : ℝ) : EReal) (α : EReal) = (((flog (α * (9586981 / 2 ^ 32)) + 1 : ℤ) : ℝ) : EReal) := by
  unfold rE
  have hp : 0 < α * (9586981 / 2 ^ 32) := by positivity
  rw [if_neg (by exact_mod_cast h.ne'), c448inv, ← EReal.coe_mul, Ideal.log_coe, if_neg (by exact not_le.mpr hp),
    Ideal.div_coe (Real.log_pos (by norm_num)).ne', ← EReal.coe_mul, Ideal.liftRound_coe, mul_one_div]
  unfold flog
  push_cast
  rfl

/-- Both programs' scale and multiplier of a row agree, from the row's largest magnitude. -/
theorem expo (a : EReal) (v : ℝ) (hv0 : 0 ≤ v) (hv : v ≤ 2 ^ 10)
    (hP : a = 0 ∨ (Ideal.ofBits .f32 0x09800000#32 ≤ a ∧ a < Ideal.ofBits .f32 0x7F000000#32)) :
    Ideal.ofBits .f32 (IntOp.shli .vector (IntOp.addi (kE (a * Ideal.ofBits .f32 0x3B124925#32)) 127#32) 23#32)
        = Ideal.exp2 (rE ((Real.log 2 : ℝ) : EReal) a)
    ∧ min ((v : EReal) * Ideal.ofBits .f32 (IntOp.shli .vector (IntOp.subi 127#32 (kE (a * Ideal.ofBits .f32 0x3B124925#32))) 23#32)) (Ideal.ofBits .f32 0x7F7FFFFF#32)
        = (v : EReal) * Ideal.exp2 (0 - rE ((Real.log 2 : ℝ) : EReal) a) := by
  have hm : (2 : ℝ) ^ 126 ≤ (2 ^ 24 - 1) * 2 ^ 104 := by norm_num
  rcases hP with rfl | ⟨hlo, hhi⟩
  · rw [zero_mul, kE_zero, rE_zero, pow_of_field _ (by decide) (by decide), pow_of_field _ (by decide) (by decide), cMax]
    have z : (0 : EReal) = ((0 : ℝ) : EReal) := rfl
    rw [sub_zero, z, Ideal.exp2_coe]
    have e : Real.rpow 2 0 = 1 := Real.rpow_zero 2
    have d : (2 : ℝ) ^ (((IntOp.addi 0#32 127#32 : BitVec 32).toNat : ℤ) - 127) = 1 := by
      have : (IntOp.addi 0#32 127#32 : BitVec 32).toNat = 127 := by decide
      rw [this]; norm_num
    have d' : (2 : ℝ) ^ (((IntOp.subi 127#32 0#32 : BitVec 32).toNat : ℤ) - 127) = 1 := by
      have : (IntOp.subi 127#32 0#32 : BitVec 32).toNat = 127 := by decide
      rw [this]; norm_num
    rw [e, d, d']
    refine ⟨rfl, ?_⟩
    rw [← EReal.coe_mul, mul_one]
    refine min_eq_left ?_
    rw [EReal.coe_le_coe_iff]
    refine le_trans hv (le_trans ?_ hm)
    norm_num
  · rw [cLo] at hlo
    rw [cHi] at hhi
    induction a using EReal.rec with
    | bot => exact absurd hlo (by simp)
    | top => exact absurd hhi (by simp)
    | coe α =>
      rw [EReal.coe_le_coe_iff] at hlo
      rw [EReal.coe_lt_coe_iff] at hhi
      have hα : 0 < α := lt_of_lt_of_le (by positivity) hlo
      have ht : 0 < α * (9586981 / 2 ^ 32) := by positivity
      rw [rE_coe α hα, c448inv, ← EReal.coe_mul]
      set τ := α * (9586981 / 2 ^ 32) with hτ
      have k1 := flog_le τ ht
      have k2 := lt_flog τ ht
      set k := flog τ with hk
      have u1 : τ < (2 : ℝ) ^ (119 : ℤ) := by
        have : α * (9586981 / 2 ^ 32) < (2 : ℝ) ^ (127 : ℤ) * (9586981 / 2 ^ 32) := by
          apply mul_lt_mul_of_pos_right hhi (by norm_num)
        refine lt_trans this ?_
        norm_num
      have u2 : (2 : ℝ) ^ (-117 : ℤ) ≤ τ := by
        have : (2 : ℝ) ^ (-108 : ℤ) * (9586981 / 2 ^ 32) ≤ α * (9586981 / 2 ^ 32) := by
          apply mul_le_mul_of_nonneg_right hlo (by norm_num)
        refine le_trans ?_ this
        norm_num
      have b1 := lt_of_le_of_lt k1 u1
      have b2 := lt_of_le_of_lt u2 k2
      rw [zpow_lt_zpow_iff_right₀ (by norm_num)] at b1 b2
      obtain ⟨m, hmk⟩ : ∃ m : ℕ, (m : ℤ) = k + 127 := ⟨(k + 127).toNat, by omega⟩
      have e1 : ((m : ℤ) - 127) = k := by omega
      have e2 : ((m : ℤ) - 126) = k + 1 := by omega
      rw [kE_coe τ m (by omega) (by omega) (by rw [e1]; exact k1) (by rw [e2]; exact k2)]
      have w1 : IntOp.addi (BitVec.ofNat 32 (m + 1) - 127#32) 127#32 = BitVec.ofNat 32 (m + 1) := by
        unfold IntOp.addi; exact BitVec.sub_add_cancel _ _
      have w2 : (IntOp.subi 127#32 (BitVec.ofNat 32 (m + 1) - 127#32)).toNat = 253 - m := by
        unfold IntOp.subi
        simp only [BitVec.toNat_sub, BitVec.toNat_ofNat]
        omega
      have w3 : (BitVec.ofNat 32 (m + 1)).toNat = m + 1 := by
        rw [BitVec.toNat_ofNat]; omega
      rw [w1, pow_of_field _ (by omega) (by omega), pow_of_field _ (by omega) (by omega), w2, w3, cMax]
      have z : (0 : EReal) = ((0 : ℝ) : EReal) := rfl
      rw [z, ← EReal.coe_sub, Ideal.exp2_coe, Ideal.exp2_coe, zero_sub]
      have p1 : Real.rpow 2 ((k + 1 : ℤ) : ℝ) = (2 : ℝ) ^ (k + 1) := Real.rpow_intCast 2 (k + 1)
      have p2 : Real.rpow 2 (-((k + 1 : ℤ) : ℝ)) = (2 : ℝ) ^ (-(k + 1)) := by
        have := Real.rpow_intCast 2 (-(k + 1))
        rw [Int.cast_neg] at this
        exact this
      rw [p1, p2]
      refine ⟨?_, ?_⟩
      · congr 2
        push_cast
        omega
      · have e3 : (((253 - m : ℕ) : ℤ) - 127) = -(k + 1) := by omega
        rw [e3, ← EReal.coe_mul]
        refine min_eq_left ?_
        rw [EReal.coe_le_coe_iff]
        refine le_trans ?_ hm
        have q : (2 : ℝ) ^ (-(k + 1)) ≤ (2 : ℝ) ^ (116 : ℤ) := by
          rw [zpow_le_zpow_iff_right₀ (by norm_num)]; omega
        calc v * (2 : ℝ) ^ (-(k + 1)) ≤ 2 ^ 10 * (2 : ℝ) ^ (116 : ℤ) := by
              apply mul_le_mul hv q (by positivity) (by norm_num)
          _ ≤ 2 ^ 126 := by norm_num

end Cert.Row
-- ==== Proof.V.Row.lean ====
/- One row of 4096 elements: what the reference makes of it, what the kernel makes of it in chunks, and that both agree where
   the row's largest normalised magnitude is zero or lies in the range of the precondition. -/
module

public import proofs.«01_k».proof.Proof.V.Expo

@[expose] public section

set_option maxRecDepth 16384

noncomputable section

namespace Cert.Row

open Idealize.ShloMosaic

variable (X G : ℕ → EReal)

/-- A magnitude. -/
def ab (x : EReal) : EReal := max x (-x)

/-- The natural logarithm of two. -/
def ln2 : EReal := ((Real.log 2 : ℝ) : EReal)

/-! ## The reference's row -/

/-- The reference's inverse root mean square. -/
def rInv : EReal := Ideal.rsqrt (Ideal.div (∑ k : Fin 4096, X k * X k) (Ideal.ofBits .f32 0x45800000#32) + Ideal.ofBits .f32 0x358637BD#32)
/-- The reference's normalised element. -/
def rH (k : ℕ) : EReal := X k * rInv X * G k
/-- The reference's largest magnitude. -/
def rA : EReal := Finset.fold max (Ideal.ofBits .f32 0xFF800000#32) (fun k : Fin 4096 => ab (rH X G k)) Finset.univ
/-- The reference's scale. -/
def rSc : EReal := Ideal.exp2 (rE ln2 (rA X G))
/-- The reference's code. -/
def rCode (k : ℕ) : EReal :=
  min (Ideal.ofBits .f32 0x43E00000#32) (max (Ideal.ofBits .f32 0xC3E00000#32) (rH X G k * Ideal.exp2 (0 - rE ln2 (rA X G))))

/-- The precondition of a row. -/
def InRange : Prop := rA X G = 0 ∨ (Ideal.ofBits .f32 0x09800000#32 ≤ rA X G ∧ rA X G < Ideal.ofBits .f32 0x7F000000#32)

/-! ## The kernel's row -/

/-- The running sums of squares, lane by lane. -/
def kSS : ℕ → ℕ → EReal
  | 0, _ => 0
  | k + 1, l => kSS k l + X (256 * k + l) * X (256 * k + l) + X (256 * k + (128 + l)) * X (256 * k + (128 + l))
/-- The running largest magnitudes, lane by lane. -/
def kAm : ℕ → ℕ → EReal
  | 0, _ => 0
  | k + 1, l => max (max (kAm k l) (ab (X (256 * k + l) * G (256 * k + l)))) (ab (X (256 * k + (128 + l)) * G (256 * k + (128 + l))))

/-- The kernel's inverse root mean square. -/
def kInv : EReal := Ideal.rsqrt ((∑ l : Fin 128, kSS X 16 l) * Ideal.ofBits .f32 0x39800000#32 + Ideal.ofBits .f32 0x358637BD#32)
/-- The kernel's largest magnitude over 448. -/
def kT : EReal := Finset.fold max (Ideal.ofBits .f32 0xFF800000#32) (fun l : Fin 128 => kAm X G 16 l) Finset.univ * kInv X * Ideal.ofBits .f32 0x3B124925#32
/-- The kernel's scale. -/
def kSc : EReal := Ideal.ofBits .f32 (IntOp.shli .vector (IntOp.addi (kE (kT X G)) 127#32) 23#32)
/-- The kernel's multiplier. -/
def kM : EReal := min (kInv X * Ideal.ofBits .f32 (IntOp.shli .vector (IntOp.subi 127#32 (kE (kT X G))) 23#32)) (Ideal.ofBits .f32 0x7F7FFFFF#32)
/-- The kernel's code. -/
def kCode (k : ℕ) : EReal := min (max (X k * G k * kM X G) (Ideal.ofBits .f32 0xC3E00000#32)) (Ideal.ofBits .f32 0x43E00000#32)

/-! ## Sums -/

/-- A sum over 4096 by lanes and chunks. -/
theorem sum_chunks (f : ℕ → EReal) (n : ℕ) :
    ∑ k ∈ Finset.range (256 * n), f k = ∑ j ∈ Finset.range n, ∑ l ∈ Finset.range 128, (f (256 * j + l) + f (256 * j + (128 + l))) := by
  induction n with
  | zero => simp
  | succ n ih =>
    rw [Finset.sum_range_succ, ← ih, show 256 * (n + 1) = 256 * n + (128 + 128) by ring, Finset.sum_range_add, Finset.sum_range_add, Finset.sum_add_distrib]

/-- The running sum of a lane is the sum over its chunks. -/
theorem kSS_eq (n l : ℕ) : kSS X n l = ∑ j ∈ Finset.range n, (X (256 * j + l) * X (256 * j + l) + X (256 * j + (128 + l)) * X (256 * j + (128 + l))) := by
  induction n with
  | zero => rfl
  | succ n ih => rw [Finset.sum_range_succ, ← ih, kSS, add_assoc]

/-- The chunked sum of squares is the whole one. -/
theorem kSS_sum : ∑ l : Fin 128, kSS X 16 l = ∑ k : Fin 4096, X k * X k := by
  rw [Fin.sum_univ_eq_sum_range (fun l => kSS X 16 l) 128, Fin.sum_univ_eq_sum_range (fun k => X k * X k) 4096,
    show 4096 = 256 * 16 by rfl, sum_chunks, Finset.sum_comm]
  exact Finset.sum_congr rfl fun l _ => kSS_eq X 16 l

/-- The two inverse roots agree. -/
theorem kInv_eq : kInv X = rInv X := by
  unfold kInv rInv
  rw [kSS_sum, c4096, c4096inv, Ideal.div_coe (by norm_num)]

/-- The reciprocal root is a real between 0 and 1024. -/
theorem rInv_real : ∃ v : ℝ, rInv X = (v : EReal) ∧ 0 ≤ v ∧ v ≤ 2 ^ 10 := by
  unfold rInv
  have h0 : 0 ≤ ∑ k : Fin 4096, X k * X k := Finset.sum_nonneg fun k _ => by
    rcases le_total 0 (X k) with h | h
    · exact mul_nonneg h h
    · rw [← neg_mul_neg]
      have : 0 ≤ -X k := by simpa using EReal.neg_le_neg_iff.mpr h
      exact mul_nonneg this this
  rw [c4096, cEps, Ideal.div_coe (by norm_num)]
  generalize (∑ k : Fin 4096, X k * X k) = S at h0 ⊢
  induction S using EReal.rec with
  | bot => exact absurd h0 (by simp)
  | top =>
    refine ⟨0, ?_, le_refl _, by norm_num⟩
    rw [EReal.top_mul_coe_of_pos (by norm_num), EReal.top_add_coe]
    rfl
  | coe s =>
    have hs : 0 ≤ s := by exact_mod_cast h0
    rw [← EReal.coe_mul, ← EReal.coe_add, Ideal.rsqrt_coe]
    have hp : (2 : ℝ) ^ (-20 : ℤ) ≤ s * (1 / 4096) + 8796093 / 2 ^ 43 := by
      have : 0 ≤ s * (1 / 4096) := by positivity
      have : (2 : ℝ) ^ (-20 : ℤ) ≤ 8796093 / 2 ^ 43 := by norm_num
      linarith
    set r := s * (1 / 4096) + 8796093 / 2 ^ 43
    have hr : 0 < r := lt_of_lt_of_le (by positivity) hp
    rw [if_neg (not_lt.mpr hr.le), if_neg hr.ne']
    refine ⟨_, rfl, by positivity, ?_⟩
    have hq : ((2 : ℝ) ^ 10)⁻¹ ≤ Real.sqrt r := by
      refine Real.le_sqrt_of_sq_le (le_trans ?_ hp)
      norm_num
    calc (Real.sqrt r)⁻¹ ≤ (((2 : ℝ) ^ 10)⁻¹)⁻¹ := inv_anti₀ (by positivity) hq
      _ = 2 ^ 10 := inv_inv _

/-! ## Largest magnitudes -/

/-- A magnitude is not negative. -/
theorem ab_nonneg (x : EReal) : 0 ≤ ab x := by
  unfold ab
  rcases le_total 0 x with h | h
  · exact le_max_of_le_left h
  · exact le_max_of_le_right (by simpa using EReal.neg_le_neg_iff.mpr h)

/-- The magnitude of a product with a number that is not negative. -/
theorem ab_mul (x : EReal) (v : ℝ) (hv : 0 ≤ v) : ab (x * v) = ab x * v := by
  unfold ab
  have hv' : (0 : EReal) ≤ v := by exact_mod_cast hv
  rw [← EReal.neg_mul]
  exact ((monotone_mul_right_of_nonneg hv').map_max).symm

/-- A lane is at most `c` just when `c` is not negative and each of its magnitudes is at most `c`. -/
theorem kAm_le (n l : ℕ) (c : EReal) :
    kAm X G n l ≤ c ↔ 0 ≤ c ∧ ∀ j < n, ab (X (256 * j + l) * G (256 * j + l)) ≤ c ∧ ab (X (256 * j + (128 + l)) * G (256 * j + (128 + l))) ≤ c := by
  induction n with
  | zero => simp [kAm]
  | succ n ih =>
    rw [kAm, max_le_iff, max_le_iff, ih]
    constructor
    · rintro ⟨⟨⟨h0, h⟩, h1⟩, h2⟩
      refine ⟨h0, fun j hj => ?_⟩
      rcases Nat.lt_succ_iff_lt_or_eq.mp hj with h' | rfl
      · exact h j h'
      · exact ⟨h1, h2⟩
    · rintro ⟨h0, h⟩
      exact ⟨⟨⟨h0, fun j hj => h j (by omega)⟩, (h n (by omega)).1⟩, (h n (by omega)).2⟩

/-- The chunked maximum is the whole one. -/
theorem kAm_max : Finset.fold max ⊥ (fun l : Fin 128 => kAm X G 16 l) Finset.univ
    = Finset.fold max 0 (fun k : Fin 4096 => ab (X k * G k)) Finset.univ := by
  refine eq_of_forall_ge_iff fun c => ?_
  rw [Finset.fold_max_le, Finset.fold_max_le]
  constructor
  · rintro ⟨-, h⟩
    refine ⟨((kAm_le X G 16 0 c).mp (h 0 (Finset.mem_univ _))).1, fun k _ => ?_⟩
    have hk := k.isLt
    rcases Nat.lt_or_ge (k.val % 256) 128 with h' | h'
    · have := (((kAm_le X G 16 (k.val % 256) c).mp (h ⟨k.val % 256, h'⟩ (Finset.mem_univ _))).2 (k.val / 256) (by omega)).1
      rwa [Nat.div_add_mod] at this
    · have := (((kAm_le X G 16 (k.val % 256 - 128) c).mp (h ⟨k.val % 256 - 128, by omega⟩ (Finset.mem_univ _))).2 (k.val / 256) (by omega)).2
      rwa [show 256 * (k.val / 256) + (128 + (k.val % 256 - 128)) = k.val by omega] at this
  · rintro ⟨h0, h⟩
    refine ⟨bot_le, fun l _ => (kAm_le X G 16 l c).mpr ⟨h0, fun j hj => ⟨?_, ?_⟩⟩⟩
    · exact h ⟨256 * j + l.val, by omega⟩ (Finset.mem_univ _)
    · exact h ⟨256 * j + (128 + l.val), by omega⟩ (Finset.mem_univ _)

/-- The reference's largest magnitude is the kernel's times the reciprocal root. -/
theorem rA_eq : rA X G = Finset.fold max (Ideal.ofBits .f32 0xFF800000#32) (fun l : Fin 128 => kAm X G 16 l) Finset.univ * rInv X := by
  obtain ⟨v, hv, hv0, -⟩ := rInv_real X
  unfold rA rH
  rw [cBot, kAm_max, hv]
  have hv' : (0 : EReal) ≤ v := by exact_mod_cast hv0
  have e : ∀ k : Fin 4096, ab (X k * (v : EReal) * G k) = ab (X k * G k) * v := fun k => by
    rw [mul_right_comm, ab_mul _ _ hv0]
  rw [Finset.fold_congr fun k _ => e k]
  have h2 : Finset.fold max ⊥ (fun k : Fin 4096 => ab (X k * G k) * (v : EReal)) Finset.univ
      = Finset.fold max (0 * (v : EReal)) (fun k : Fin 4096 => ab (X k * G k) * (v : EReal)) Finset.univ := by
    refine eq_of_forall_ge_iff fun c => ?_
    rw [Finset.fold_max_le, Finset.fold_max_le]
    constructor
    · rintro ⟨-, h⟩
      refine ⟨?_, h⟩
      rw [zero_mul]
      exact le_trans (mul_nonneg (ab_nonneg _) hv') (h 0 (Finset.mem_univ _))
    · rintro ⟨-, h⟩
      exact ⟨bot_le, h⟩
  rw [h2]
  exact Finset.fold_hom (op := max) (op' := max) (m := fun z : EReal => z * v) fun x y => (monotone_mul_right_of_nonneg hv').map_max

/-- The two largest magnitudes agree. -/
theorem kT_eq : kT X G = rA X G * Ideal.ofBits .f32 0x3B124925#32 := by
  unfold kT
  rw [rA_eq, kInv_eq]

/-- Both scales agree. -/
theorem kSc_eq (h : InRange X G) : kSc X G = rSc X G := by
  obtain ⟨v, hv, hv0, hv1⟩ := rInv_real X
  unfold kSc rSc
  rw [kT_eq]
  exact (expo _ v hv0 hv1 h).1

/-- Both codes agree. -/
theorem kCode_eq (h : InRange X G) (k : ℕ) : kCode X G k = rCode X G k := by
  obtain ⟨v, hv, hv0, hv1⟩ := rInv_real X
  unfold kCode rCode kM
  rw [kT_eq, kInv_eq]
  have := (expo _ v hv0 hv1 h).2
  unfold rH
  have e : ∀ z : EReal, X k * G k * ((v : EReal) * z) = X k * v * G k * z := fun z => by ac_rfl
  rw [hv, this, e, min_comm, max_comm]
  rfl

end Cert.Row
-- ==== Proof.V.Head.lean ====
/- One element of a projection and of a normalised head. -/
module

public import proofs.«01_k».proof.Proof.V.Row

@[expose] public section

noncomputable section

namespace Cert.Row

open Idealize.ShloMosaic

/-- A projected element of row `R`: output column `o`. -/
def kY (C : ℕ → EReal) (sc : EReal) (w : ℕ → ℕ → EReal) (s : ℕ → EReal) (o : ℕ) : EReal := (∑ k : Fin 4096, C k * w o k) * sc * s o
/-- A normalised element of a head whose first column is `c`. -/
def kN (Y : ℕ → EReal) (n : ℕ → EReal) (c l : ℕ) : EReal :=
  Y (c + l) * Ideal.rsqrt (Ideal.div (∑ j : Fin 128, Y (c + j) * Y (c + j)) (Ideal.ofBits .f32 0x43000000#32) + Ideal.ofBits .f32 0x358637BD#32) * n l

end Cert.Row
-- ==== Proof.V.RVal.lean ====
/- The reference's payloads over the extended reals: the codes and scales are those of `Cert.Row`, the heads those of the kernel's rows. -/
module

public import proofs.«01_k».proof.Proof.Gen.ReferenceIdeal.Skeleton
public import proofs.«01_k».proof.Proof.V.Head
public import Idealize.ShloMosaic.Lib.Pointwise

@[expose] public section

set_option maxRecDepth 16384

noncomputable section

namespace Cert.ReferenceIdeal.V

open Idealize.ShloMosaic
open Cert.ReferenceIdeal Cert.ReferenceIdeal.Gen Cert.Row

variable (x : FVec Ideal S32768x4096 .bf16) (g : FVec Ideal S1x4096 .bf16)

/-- A row of a matrix of 4096 columns. -/
def row {R : ℕ} (x : (⟨2, ![R, 4096]⟩ : Shape).Idx → EReal) (i : Fin R) : ℕ → EReal := fun c => x (ix2 i (⟨c % 4096, Nat.mod_lt _ (by decide)⟩ : Fin 4096))

/-- An element is an element of its row. -/
theorem row_apply {R : ℕ} (x : (⟨2, ![R, 4096]⟩ : Shape).Idx → EReal) (i : Fin R) (k : Fin 4096) : x (ix2 i k) = row x i k := by
  have : (⟨k.val % 4096, Nat.mod_lt _ (by decide)⟩ : Fin 4096) = k := Fin.ext (Nat.mod_eq_of_lt k.isLt)
  unfold row
  rw [this]

/-- The normalised input. -/
theorem pay4_apply (R : Fin 32768) (k : Fin 4096) : k0_pay4 (F := Ideal) x g (ix2 R k) = rH (row x R) (row g 0) k := by
  pointwise [k0_pay4]
  unfold rH rInv
  simp only [row_apply]

/-- The named constant is the real logarithm of two. -/
theorem ln2_eq : (Named.named κ "ln2" 0x3F317218#32 : Ideal .f32) = ln2 := by
  rfl

/-- The largest element of each row. -/
theorem rowMax {R C : ℕ} (v : FVec Ideal ⟨2, ![R, C]⟩ .f32) (h : (⟨2, ![R, C]⟩ : Shape).Reduces [1] ⟨1, ![R]⟩) (j : Fin R) :
    multiReduction .maximumf [1] ⟨1, ![R]⟩ v 0xFF800000#32 h (.inl rfl) rfl (ix1 j)
      = Finset.fold max (Ideal.ofBits .f32 0xFF800000#32) (fun k : Fin C => v (ix2 j k)) Finset.univ := by
  refine (multiReduction_maximumf_eq_fold v _ h _ rfl (ix1 j)).trans ?_
  exact h.fold_fiber_r2_a1 (ix1 j) _ _ v

/-- A column of row values, read as a matrix of one column. -/
theorem col_apply (v : FVec Ideal S32768 .f32) (j : Fin 32768) :
    shapeCast S32768x1 v shapeCasts_S32768_S32768x1 (ix2 j 0) = v (ix1 j) := by
  pointwise

/-- The exponent of each row, from its largest magnitude. -/
theorem expoVec {R : ℕ} (v : FVec Ideal ⟨2, ![R, 1]⟩ .f32) (c : Ideal .f32) (j : Fin R) :
    select (cmpf .oeq v (broadcast ⟨2, ![R, 1]⟩ (Scalar.ofBits .f32 0x00000000#32))) (broadcast ⟨2, ![R, 1]⟩ (Scalar.ofBits .f32 0x00000000#32 : Ideal .f32))
      (addf (floor (divf (log (mulf v (broadcast ⟨2, ![R, 1]⟩ (Scalar.ofBits .f32 0x3B124925#32)))) (broadcast ⟨2, ![R, 1]⟩ c)))
        (broadcast ⟨2, ![R, 1]⟩ (Scalar.ofBits .f32 0x3F800000#32))) (ix2 j 0)
      = rE c (v (ix2 j 0)) := by
  show Scalar.select (FloatOps.cmpf (F := Ideal) .oeq (v (ix2 j 0)) (Ideal.ofBits .f32 0#32)) (Ideal.ofBits .f32 0#32 : EReal)
    (Ideal.liftRound Int.floor (Ideal.div (Ideal.log (v (ix2 j 0) * Ideal.ofBits .f32 0x3B124925#32)) c) + Ideal.ofBits .f32 0x3F800000#32) = _
  generalize v (ix2 j 0) = a
  unfold rE
  by_cases h : a = 0
  · pointwise
  · pointwise

/-- The exponents, from the largest magnitudes. -/
theorem pay5_of (R : Fin 32768) : k0_pay5 (F := Ideal) x g (ix2 R 0)
    = rE ln2 (Finset.fold max (Ideal.ofBits .f32 0xFF800000#32) (fun k : Fin 4096 => ab (k0_pay4 (F := Ideal) x g (ix2 R k))) Finset.univ) := by
  unfold k0_pay5
  generalize k0_pay4 (F := Ideal) x g = h
  refine (expoVec _ _ R).trans ?_
  rw [ln2_eq]
  refine congrArg (rE ln2) ?_
  refine (col_apply _ R).trans ?_
  exact rowMax (absf h) _ R

/-- The exponent of a row. -/
theorem pay5_apply (R : Fin 32768) : k0_pay5 (F := Ideal) x g (ix2 R 0) = rE ln2 (rA (row x R) (row g 0)) := by
  rw [pay5_of]
  unfold rA
  simp only [pay4_apply]

/-- A power of two, element by element. -/
theorem exp2V {s : Shape} (v : FVec Ideal s .f32) (i : s.Idx) : exp2 v i = Ideal.exp2 (v i) := rfl

/-- The scale of each row. -/
theorem pay6_apply (R : Fin 32768) : k0_pay6 (F := Ideal) x g (ix2 R 0) = rSc (row x R) (row g 0) := by
  unfold k0_pay6
  refine (exp2V (k0_pay5 (F := Ideal) x g) (ix2 R 0)).trans ?_
  rw [pay5_apply]
  rfl

/-- A column, repeated along the rows. -/
theorem bcol_apply (v : FVec Ideal S32768x1 .f32) (R : Fin 32768) (k : Fin 4096) :
    broadcastTo S32768x4096 v broadcasts_S32768x1_S32768x4096 (ix2 R k) = v (ix2 R 0) := by
  pointwise

/-- The codes, from any rows and exponents. -/
theorem code_of (h : FVec Ideal S32768x4096 .f32) (e : FVec Ideal S32768x1 .f32) (R : Fin 32768) (k : Fin 4096) :
    (truncf .fp8e4m3 (minimumf (broadcast S32768x4096 (Scalar.ofBits .f32 0x43E00000#32)) (maximumf (broadcast S32768x4096 (Scalar.ofBits .f32 0xC3E00000#32))
      (mulf h (broadcastTo S32768x4096 (exp2 (subf (broadcast S32768x1 (Scalar.ofBits .f32 0x00000000#32)) e)) broadcasts_S32768x1_S32768x4096)))) bitsLt_fp8e4m3_f32 : FVec Ideal S32768x4096 .fp8e4m3)
      (ix2 R k)
    = min (Ideal.ofBits .f32 0x43E00000#32) (max (Ideal.ofBits .f32 0xC3E00000#32) (h (ix2 R k) * Ideal.exp2 (0 - e (ix2 R 0)))) := by
  refine Eq.trans (b := min (Ideal.ofBits .f32 0x43E00000#32) (max (Ideal.ofBits .f32 0xC3E00000#32) (h (ix2 R k) *
    (broadcastTo S32768x4096 (exp2 (subf (broadcast S32768x1 (Scalar.ofBits .f32 0x00000000#32)) e)) broadcasts_S32768x1_S32768x4096) (ix2 R k)))) rfl ?_
  rw [bcol_apply]
  have h0 : Ideal.ofBits .f32 0x00000000#32 = 0 := by pointwise
  rw [← h0]
  rfl

/-- A code. -/
theorem pay7_apply (R : Fin 32768) (k : Fin 4096) : k0_pay7 (F := Ideal) x g (ix2 R k) = rCode (row x R) (row g 0) k := by
  refine (code_of (k0_pay4 (F := Ideal) x g) (k0_pay5 (F := Ideal) x g) R k).trans ?_
  rw [pay4_apply, pay5_apply]
  rfl

/-! ## Heads -/

/-- A weight, and a row of 512 scales or of 128 gains, at natural indices. -/
def mat (w : (⟨2, ![512, 4096]⟩ : Shape).Idx → EReal) (o k : ℕ) : EReal :=
  w (ix2 (⟨o % 512, Nat.mod_lt _ (by decide)⟩ : Fin 512) (⟨k % 4096, Nat.mod_lt _ (by decide)⟩ : Fin 4096))
/-- The column scales as a function of the column. -/
def srow (s : (⟨2, ![1, 512]⟩ : Shape).Idx → EReal) (o : ℕ) : EReal := s (ix2 (0 : Fin 1) (⟨o % 512, Nat.mod_lt _ (by decide)⟩ : Fin 512))
/-- A head's gain as a function of the column. -/
def nrow (n : (⟨3, ![1, 1, 128]⟩ : Shape).Idx → EReal) (l : ℕ) : EReal := n (ix3 (0 : Fin 1) (0 : Fin 1) (⟨l % 128, Nat.mod_lt _ (by decide)⟩ : Fin 128))

/-- An element of a weight. -/
theorem mat_apply (w : (⟨2, ![512, 4096]⟩ : Shape).Idx → EReal) (o : Fin 512) (k : Fin 4096) : w (ix2 o k) = mat w o k := by
  unfold mat
  congr 2 <;> exact Fin.ext (Nat.mod_eq_of_lt (Fin.isLt _)).symm
/-- An element of a head's gain. -/
theorem nrow_apply (n : (⟨3, ![1, 1, 128]⟩ : Shape).Idx → EReal) (l : Fin 128) : n (ix3 0 0 l) = nrow n l := by
  unfold nrow
  congr 2; exact Fin.ext (Nat.mod_eq_of_lt (Fin.isLt _)).symm
/-- A column's scale. -/
theorem srow_apply (s : (⟨2, ![1, 512]⟩ : Shape).Idx → EReal) (o : Fin 512) : s (ix2 0 o) = srow s o := by
  unfold srow
  congr 2; exact Fin.ext (Nat.mod_eq_of_lt (Fin.isLt _)).symm

variable (a : FVec Ideal S32768x1 .f32) (b : FVec Ideal S32768x4096 .fp8e4m3) (w : FVec Ideal S512x4096 .fp8e4m3) (s : FVec Ideal S1x512 .f32) (n : FVec Ideal S1x1x128 .bf16)

/-- A projection, scaled, by heads. -/
theorem pay10_apply (R : Fin 32768) (h : Fin 4) (l : Fin 128) : k0_pay10 (F := Ideal) a b w s (ix3 R h l)
    = kY (row b R) (a (ix2 R 0)) (mat w) (srow s) (128 * h.val + l.val) := by
  have e : 128 * h.val + l.val = h.val * 128 + l.val := by omega
  pointwise [k0_pay10, k0_pay8]
  rw [e]
  unfold kY
  simp only [mat_apply, srow_apply, row_apply]

/-- The value projection, scaled, by heads. -/
theorem pay2_apply (R : Fin 32768) (h : Fin 4) (l : Fin 128) : k0_pay2 (F := Ideal) a b w s (ix3 R h l)
    = kY (row b R) (a (ix2 R 0)) (mat w) (srow s) (128 * h.val + l.val) := by
  have e : 128 * h.val + l.val = h.val * 128 + l.val := by omega
  pointwise [k0_pay2]
  rw [e]
  unfold kY
  simp only [mat_apply, srow_apply, row_apply]

/-- A head's norm. -/
theorem pay1_apply (v : FVec Ideal S32768x4x128 .f32) (Y : ℕ → EReal) (R : Fin 32768) (h : Fin 4) (l : Fin 128)
    (hv : ∀ l : Fin 128, v (ix3 R h l) = Y (128 * h.val + l.val)) :
    k0_pay1 (F := Ideal) v n (ix3 R h l) = kN Y (nrow n) (128 * h.val) l := by
  pointwise [k0_pay1]
  unfold kN
  simp only [hv, nrow_apply]

/-- The query heads are the norm of the projection. -/
theorem pay9_eq : k0_pay9 (F := Ideal) a b w s n = k0_pay1 (F := Ideal) (k0_pay10 (F := Ideal) a b w s) n := rfl

/-- The scales laid out by sequence. -/
theorem pay3_apply (i : Fin 8) (c : Fin 4096) : k0_pay3 (F := Ideal) a (ix3 i 0 c) = a (ix2 (⟨i.val * 4096 + c.val, by omega⟩ : Fin 32768) 0) := by
  pointwise [k0_pay3]

end Cert.ReferenceIdeal.V
-- ==== Proof.V.Args.lean ====
/- The five results as functions of the argument arrays, element by element. -/
module

public import proofs.«01_k».proof.Proof.V.Head

@[expose] public section

noncomputable section

namespace Cert.Row

open Idealize.ShloMosaic

/-- Row `R` of the 32768 input rows: row `R % 4096` of slab `R / 4096`. -/
def rowA (x : (⟨3, ![8, 4096, 4096]⟩ : Shape).Idx → EReal) (R k : ℕ) : EReal :=
  x (ix3 (⟨R / 4096 % 8, Nat.mod_lt _ (by decide)⟩ : Fin 8) (⟨R % 4096, Nat.mod_lt _ (by decide)⟩ : Fin 4096) (⟨k % 4096, Nat.mod_lt _ (by decide)⟩ : Fin 4096))
/-- The gain. -/
def gainA (g : (⟨1, ![4096]⟩ : Shape).Idx → EReal) (k : ℕ) : EReal := g (ix1 (⟨k % 4096, Nat.mod_lt _ (by decide)⟩ : Fin 4096))
/-- A weight. -/
def matA (w : (⟨2, ![512, 4096]⟩ : Shape).Idx → EReal) (o k : ℕ) : EReal :=
  w (ix2 (⟨o % 512, Nat.mod_lt _ (by decide)⟩ : Fin 512) (⟨k % 4096, Nat.mod_lt _ (by decide)⟩ : Fin 4096))
/-- The scales of a weight's columns. -/
def sclA (s : (⟨1, ![512]⟩ : Shape).Idx → EReal) (o : ℕ) : EReal := s (ix1 (⟨o % 512, Nat.mod_lt _ (by decide)⟩ : Fin 512))
/-- The gain of a head. -/
def nrmA (n : (⟨1, ![128]⟩ : Shape).Idx → EReal) (l : ℕ) : EReal := n (ix1 (⟨l % 128, Nat.mod_lt _ (by decide)⟩ : Fin 128))

variable (x : (⟨3, ![8, 4096, 4096]⟩ : Shape).Idx → EReal) (g : (⟨1, ![4096]⟩ : Shape).Idx → EReal)
  (w : (⟨2, ![512, 4096]⟩ : Shape).Idx → EReal) (s : (⟨1, ![512]⟩ : Shape).Idx → EReal) (n : (⟨1, ![128]⟩ : Shape).Idx → EReal)

/-- The normalised heads of a projection. -/
def headN (i : (⟨3, ![32768, 4, 128]⟩ : Shape).Idx) : EReal :=
  kN (kY (rCode (rowA x (i 0).val) (gainA g)) (rSc (rowA x (i 0).val) (gainA g)) (matA w) (sclA s)) (nrmA n) (128 * (i 1).val) (i 2).val
/-- The heads of a projection as they are. -/
def headV (i : (⟨3, ![32768, 4, 128]⟩ : Shape).Idx) : EReal :=
  kY (rCode (rowA x (i 0).val) (gainA g)) (rSc (rowA x (i 0).val) (gainA g)) (matA w) (sclA s) (128 * (i 1).val + (i 2).val)
/-- The codes. -/
def codesA (i : (⟨2, ![32768, 4096]⟩ : Shape).Idx) : EReal := rCode (rowA x (i 0).val) (gainA g) (i 1).val
/-- The scales. -/
def scalesA (i : (⟨3, ![8, 1, 4096]⟩ : Shape).Idx) : EReal := rSc (rowA x (4096 * (i 0).val + (i 2).val)) (gainA g)

end Cert.Row
-- ==== Proof.V.RBlk.lean ====
/- What the reference's blocks hold, as functions of the argument arrays. -/
module

public import proofs.«01_k».proof.Proof.Gen.ReferenceIdeal.Frame
public import proofs.«01_k».proof.Proof.V.RVal
public import proofs.«01_k».proof.Proof.V.Args
public import Idealize.ShloMosaic.Lib.Pipeline.ValueKit
public import Idealize.ShloMosaic.Lib.StableHlo.ReadAt

@[expose] public section

set_option maxRecDepth 16384

noncomputable section

namespace Cert.ReferenceIdeal.V

open Idealize.ShloMosaic Idealize.ShloMosaic.TcCoe
open Cert.ReferenceIdeal Cert.ReferenceIdeal.Gen Cert.Row

variable (m : (ℓ : Loc nD τ sig) → Buf (Elt Ideal) ℓ) (c : Dev nD)

/-- The input. -/
abbrev aX : FVec Ideal S8x4096x4096 .bf16 := m ((c : Thread nD τ).loc main_arg0)
/-- The gain. -/
abbrev aG : FVec Ideal S4096 .bf16 := m ((c : Thread nD τ).loc main_arg1)

/-- Where the block of window 0 starts, in blocks. -/
theorem idx0 : ∀ t : Fin cfg0.N, win0_0.index t = ![0, 0] := by decide +kernel
/-- Where the block of window 1 starts, in blocks. -/
theorem idx1 : ∀ t : Fin cfg0.N, win0_1.index t = ![0, 0] := by decide +kernel

/-- The input's block at an index. -/
theorem in0 (t : Fin cfg0.N) (R : Fin 32768) (k : Fin 4096) : (iblk m c 0 t : FVec Ideal S32768x4096 .bf16) (ix2 R k)
    = aX m c (ix3 (⟨R.val / 4096, by omega⟩ : Fin 8) (⟨R.val % 4096, by omega⟩ : Fin 4096) k) := by
  blk_simp [iblk]
  entry_read
  pointwise
  blk_ext [iblk, idx0 t]

/-- The gain's block at an index. -/
theorem in1 (t : Fin cfg0.N) (k : Fin 4096) : (iblk m c 1 t : FVec Ideal S1x4096 .bf16) (ix2 0 k) = aG m c (ix1 k) := by
  blk_simp [iblk]
  entry_read
  pointwise
  blk_ext [iblk, idx1 t]

/-- A row of the input's block is a row of the input. -/
theorem row0 (t : Fin cfg0.N) (R : Fin 32768) : row (iblk m c 0 t : FVec Ideal S32768x4096 .bf16) R = rowA (aX m c) R.val := by
  funext k
  unfold row rowA
  rw [in0]
  have : R.val / 4096 % 8 = R.val / 4096 := Nat.mod_eq_of_lt (by omega)
  simp only [this]

/-- The gain's block is the gain. -/
theorem row1 (t : Fin cfg0.N) : row (iblk m c 1 t : FVec Ideal S1x4096 .bf16) 0 = gainA (aG m c) := by
  funext k
  unfold row gainA
  rw [in1]

/-- Where the block of window 2 starts, in blocks. -/
theorem idx2 : ∀ t : Fin cfg0.N, win0_2.index t = ![0, 0] := by decide +kernel

/-- The weight in window 2 is its argument. -/
theorem mat2 (t : Fin cfg0.N) : mat (iblk m c 2 t : FVec Ideal S512x4096 .fp8e4m3) = matA (m ((c : Thread nD τ).loc main_arg2) : FVec Ideal S512x4096 .fp8e4m3) := by
  funext o k
  unfold mat matA
  blk_simp [iblk]
  rw [V_main_arg2]
  blk_ext [iblk, idx2 t]

/-- Where the block of window 4 starts, in blocks. -/
theorem idx4 : ∀ t : Fin cfg0.N, win0_4.index t = ![0, 0] := by decide +kernel

/-- The weight in window 4 is its argument. -/
theorem mat4 (t : Fin cfg0.N) : mat (iblk m c 4 t : FVec Ideal S512x4096 .fp8e4m3) = matA (m ((c : Thread nD τ).loc main_arg4) : FVec Ideal S512x4096 .fp8e4m3) := by
  funext o k
  unfold mat matA
  blk_simp [iblk]
  rw [V_main_arg4]
  blk_ext [iblk, idx4 t]

/-- Where the block of window 6 starts, in blocks. -/
theorem idx6 : ∀ t : Fin cfg0.N, win0_6.index t = ![0, 0] := by decide +kernel

/-- The weight in window 6 is its argument. -/
theorem mat6 (t : Fin cfg0.N) : mat (iblk m c 6 t : FVec Ideal S512x4096 .fp8e4m3) = matA (m ((c : Thread nD τ).loc main_arg6) : FVec Ideal S512x4096 .fp8e4m3) := by
  funext o k
  unfold mat matA
  blk_simp [iblk]
  rw [V_main_arg6]
  blk_ext [iblk, idx6 t]

/-- Where the block of window 3 starts, in blocks. -/
theorem idx3 : ∀ t : Fin cfg0.N, win0_3.index t = ![0, 0] := by decide +kernel

/-- The column scales in window 3 are their argument. -/
theorem scl3 (t : Fin cfg0.N) : srow (iblk m c 3 t : FVec Ideal S1x512 .f32) = sclA (m ((c : Thread nD τ).loc main_arg3) : FVec Ideal S512 .f32) := by
  funext o
  unfold srow sclA
  blk_simp [iblk]
  entry_read
  pointwise
  blk_ext [iblk, idx3 t]

/-- Where the block of window 5 starts, in blocks. -/
theorem idx5 : ∀ t : Fin cfg0.N, win0_5.index t = ![0, 0] := by decide +kernel

/-- The column scales in window 5 are their argument. -/
theorem scl5 (t : Fin cfg0.N) : srow (iblk m c 5 t : FVec Ideal S1x512 .f32) = sclA (m ((c : Thread nD τ).loc main_arg5) : FVec Ideal S512 .f32) := by
  funext o
  unfold srow sclA
  blk_simp [iblk]
  entry_read
  pointwise
  blk_ext [iblk, idx5 t]

/-- Where the block of window 7 starts, in blocks. -/
theorem idx7 : ∀ t : Fin cfg0.N, win0_7.index t = ![0, 0] := by decide +kernel

/-- The column scales in window 7 are their argument. -/
theorem scl7 (t : Fin cfg0.N) : srow (iblk m c 7 t : FVec Ideal S1x512 .f32) = sclA (m ((c : Thread nD τ).loc main_arg7) : FVec Ideal S512 .f32) := by
  funext o
  unfold srow sclA
  blk_simp [iblk]
  entry_read
  pointwise
  blk_ext [iblk, idx7 t]

/-- Where the block of window 8 starts, in blocks. -/
theorem idx8 : ∀ t : Fin cfg0.N, win0_8.index t = ![0, 0, 0] := by decide +kernel

/-- The head gain in window 8 is its argument. -/
theorem nrm8 (t : Fin cfg0.N) : nrow (iblk m c 8 t : FVec Ideal S1x1x128 .bf16) = nrmA (m ((c : Thread nD τ).loc main_arg8) : FVec Ideal S128 .bf16) := by
  funext o
  unfold nrow nrmA
  blk_simp [iblk]
  entry_read
  pointwise
  blk_ext [iblk, idx8 t]

/-- Where the block of window 9 starts, in blocks. -/
theorem idx9 : ∀ t : Fin cfg0.N, win0_9.index t = ![0, 0, 0] := by decide +kernel

/-- The head gain in window 9 is its argument. -/
theorem nrm9 (t : Fin cfg0.N) : nrow (iblk m c 9 t : FVec Ideal S1x1x128 .bf16) = nrmA (m ((c : Thread nD τ).loc main_arg9) : FVec Ideal S128 .bf16) := by
  funext o
  unfold nrow nrmA
  blk_simp [iblk]
  entry_read
  pointwise
  blk_ext [iblk, idx9 t]

/-- The one point of the grid. -/
def p0 : Fin cfg0.N := ⟨0, by decide⟩

/-- The codes' rows. -/
theorem code12 (t : Fin cfg0.N) (R : Fin 32768) : row (k0_pay7 (F := Ideal) (iblk m c 0 t) (iblk m c 1 t)) R = fun k => rCode (rowA (aX m c) R.val) (gainA (aG m c)) (k % 4096) := by
  funext k
  unfold row
  rw [pay7_apply, row0, row1]

/-- A scale. -/
theorem scale11 (t : Fin cfg0.N) (R : Fin 32768) : k0_pay6 (F := Ideal) (iblk m c 0 t) (iblk m c 1 t) (ix2 R 0) = rSc (rowA (aX m c) R.val) (gainA (aG m c)) := by
  rw [pay6_apply, row0, row1]

/-- Only the first 4096 elements of a row take part. -/
theorem kY_mod (C : ℕ → EReal) (sc : EReal) (w : ℕ → ℕ → EReal) (s : ℕ → EReal) : kY (fun k => C (k % 4096)) sc w s = kY C sc w s := by
  funext o
  unfold kY
  simp only [Nat.mod_eq_of_lt (Fin.isLt _)]

variable (x0 : Vec Ideal S32768x4096 .bf16) (x1 : Vec Ideal S1x4096 .bf16) (x2 : Vec Ideal S512x4096 .fp8e4m3) (x3 : Vec Ideal S1x512 .f32) (x4 : Vec Ideal S512x4096 .fp8e4m3) (x5 : Vec Ideal S1x512 .f32) (x6 : Vec Ideal S512x4096 .fp8e4m3) (x7 : Vec Ideal S1x512 .f32) (x8 : Vec Ideal S1x1x128 .bf16) (x9 : Vec Ideal S1x1x128 .bf16)

/-- What the body stores as query heads. -/
theorem o10 : out0_10 x0 x1 x2 x3 x4 x5 x6 x7 x8 x9 = k0_pay1 (F := Ideal) (k0_pay10 (F := Ideal) (k0_pay6 (F := Ideal) x0 x1) (k0_pay7 (F := Ideal) x0 x1) x2 x3) x8 := by
  unfold out0_10 k0_pay11 k0_pay12
  frame_out
  rfl

/-- What the body stores as key heads. -/
theorem o11 : out0_11 x0 x1 x2 x3 x4 x5 x6 x7 x8 x9 = k0_pay1 (F := Ideal) (k0_pay10 (F := Ideal) (k0_pay6 (F := Ideal) x0 x1) (k0_pay7 (F := Ideal) x0 x1) x4 x5) x9 := by
  unfold out0_11 k0_pay11 k0_pay12
  frame_out

/-- What the body stores as value heads. -/
theorem o12 : out0_12 x0 x1 x2 x3 x4 x5 x6 x7 x8 x9 = k0_pay2 (F := Ideal) (k0_pay6 (F := Ideal) x0 x1) (k0_pay8 (F := Ideal) (k0_pay7 (F := Ideal) x0 x1)) x6 x7 := by
  unfold out0_12 k0_pay11 k0_pay12
  frame_out

/-- What the body stores as codes. -/
theorem o13 : out0_13 x0 x1 x2 x3 x4 x5 x6 x7 x8 x9 = k0_pay7 (F := Ideal) x0 x1 := by
  unfold out0_13 k0_pay12
  frame_out

/-- What the body stores as scales. -/
theorem o14 : out0_14 x0 x1 x2 x3 x4 x5 x6 x7 x8 x9 = k0_pay3 (F := Ideal) (k0_pay6 (F := Ideal) x0 x1) := by
  unfold out0_14 k0_pay11
  frame_out

end Cert.ReferenceIdeal.V
-- ==== Proof.V.RArr.lean ====
/- The reference's arrays after its run, as functions of the argument arrays. -/
module

public import proofs.«01_k».proof.Proof.V.RBlk

@[expose] public section

set_option maxRecDepth 16384

noncomputable section

namespace Cert.ReferenceIdeal.V

open Idealize.ShloMosaic Idealize.ShloMosaic.TcCoe
open Cert.ReferenceIdeal Cert.ReferenceIdeal.Gen Cert.Row

variable (m : (ℓ : Loc nD τ sig) → Buf (Elt Ideal) ℓ) (ρ : Dev nD → PrngReg) (c : Dev nD)

/-- Where the block of window 13 starts, in blocks. -/
theorem idx13 : ∀ t : Fin cfg0.N, win0_13.index t = ![0, 0] := by decide +kernel
/-- Where the block of window 14 starts, in blocks. -/
theorem idx14 : ∀ t : Fin cfg0.N, win0_14.index t = ![0, 0, 0] := by decide +kernel

/-- The codes, element by element. -/
theorem pt13 (t : Fin cfg0.N) (y : S32768x4096.Idx) : k0_pay7 (F := Ideal) (iblk m c 0 t) (iblk m c 1 t) y = codesA (aX m c) (aG m c) y := by
  obtain ⟨R, k, rfl⟩ : ∃ (R : Fin 32768) (k : Fin 4096), y = ix2 R k := ⟨y 0, y 1, ValueIdx.eq_ix2 y⟩
  rw [pay7_apply, row0, row1]
  rfl

/-- The scales, element by element. -/
theorem pt14 (t : Fin cfg0.N) (y : S8x1x4096.Idx) : k0_pay3 (F := Ideal) (k0_pay6 (F := Ideal) (iblk m c 0 t) (iblk m c 1 t)) y = scalesA (aX m c) (aG m c) y := by
  obtain ⟨i, j, k, rfl⟩ : ∃ (i : Fin 8) (j : Fin 1) (k : Fin 4096), y = ix3 i j k := ⟨y 0, y 1, y 2, ValueIdx.eq_ix3 y⟩
  obtain rfl : j = 0 := Subsingleton.elim _ _
  rw [pay3_apply, scale11]
  show rSc (rowA (aX m c) (i.val * 4096 + k.val)) _ = rSc (rowA (aX m c) (4096 * i.val + k.val)) _
  rw [Nat.mul_comm i.val 4096]

/-- The rows of codes and the scale that the projections are over. -/
theorem yEq (t : Fin cfg0.N) (R : Fin 32768) (w : ℕ → ℕ → EReal) (s : ℕ → EReal) :
    kY (row (k0_pay7 (F := Ideal) (iblk m c 0 t) (iblk m c 1 t)) R) (k0_pay6 (F := Ideal) (iblk m c 0 t) (iblk m c 1 t) (ix2 R 0)) w s
      = kY (rCode (rowA (aX m c) R.val) (gainA (aG m c))) (rSc (rowA (aX m c) R.val) (gainA (aG m c))) w s := by
  rw [code12, scale11, kY_mod]

/-- The query heads, element by element. -/
theorem pt10 (t : Fin cfg0.N) (y : S32768x4x128.Idx) :
    k0_pay1 (F := Ideal) (k0_pay10 (F := Ideal) (k0_pay6 (F := Ideal) (iblk m c 0 t) (iblk m c 1 t)) (k0_pay7 (F := Ideal) (iblk m c 0 t) (iblk m c 1 t)) (iblk m c 2 t) (iblk m c 3 t)) (iblk m c 8 t) y
      = headN (aX m c) (aG m c) (m ((c : Thread nD τ).loc main_arg2)) (m ((c : Thread nD τ).loc main_arg3)) (m ((c : Thread nD τ).loc main_arg8)) y := by
  obtain ⟨R, h, l, rfl⟩ : ∃ (R : Fin 32768) (h : Fin 4) (l : Fin 128), y = ix3 R h l := ⟨y 0, y 1, y 2, ValueIdx.eq_ix3 y⟩
  rw [pay1_apply _ _ _ _ _ _ (fun l => pay10_apply _ _ _ _ R h l), yEq, mat2, scl3, nrm8]
  rfl

/-- The key heads, element by element. -/
theorem pt11 (t : Fin cfg0.N) (y : S32768x4x128.Idx) :
    k0_pay1 (F := Ideal) (k0_pay10 (F := Ideal) (k0_pay6 (F := Ideal) (iblk m c 0 t) (iblk m c 1 t)) (k0_pay7 (F := Ideal) (iblk m c 0 t) (iblk m c 1 t)) (iblk m c 4 t) (iblk m c 5 t)) (iblk m c 9 t) y
      = headN (aX m c) (aG m c) (m ((c : Thread nD τ).loc main_arg4)) (m ((c : Thread nD τ).loc main_arg5)) (m ((c : Thread nD τ).loc main_arg9)) y := by
  obtain ⟨R, h, l, rfl⟩ : ∃ (R : Fin 32768) (h : Fin 4) (l : Fin 128), y = ix3 R h l := ⟨y 0, y 1, y 2, ValueIdx.eq_ix3 y⟩
  rw [pay1_apply _ _ _ _ _ _ (fun l => pay10_apply _ _ _ _ R h l), yEq, mat4, scl5, nrm9]
  rfl

/-- The value heads, element by element. -/
theorem pt12 (t : Fin cfg0.N) (y : S32768x4x128.Idx) :
    k0_pay2 (F := Ideal) (k0_pay6 (F := Ideal) (iblk m c 0 t) (iblk m c 1 t)) (k0_pay8 (F := Ideal) (k0_pay7 (F := Ideal) (iblk m c 0 t) (iblk m c 1 t))) (iblk m c 6 t) (iblk m c 7 t) y
      = headV (aX m c) (aG m c) (m ((c : Thread nD τ).loc main_arg6)) (m ((c : Thread nD τ).loc main_arg7)) y := by
  obtain ⟨R, h, l, rfl⟩ : ∃ (R : Fin 32768) (h : Fin 4) (l : Fin 128), y = ix3 R h l := ⟨y 0, y 1, y 2, ValueIdx.eq_ix3 y⟩
  have e : k0_pay8 (F := Ideal) (k0_pay7 (F := Ideal) (iblk m c 0 t) (iblk m c 1 t)) = k0_pay7 (F := Ideal) (iblk m c 0 t) (iblk m c 1 t) := by
    funext i; pointwise [k0_pay8]
  rw [pay2_apply, e, yEq, mat6, scl7]
  rfl

/-- Where the block of window 10 starts, in blocks. -/
theorem idx10 : ∀ t : Fin cfg0.N, win0_10.index t = ![0, 0, 0] := by decide +kernel

/-- Where the block of window 11 starts, in blocks. -/
theorem idx11 : ∀ t : Fin cfg0.N, win0_11.index t = ![0, 0, 0] := by decide +kernel

/-- Where the block of window 12 starts, in blocks. -/
theorem idx12 : ∀ t : Fin cfg0.N, win0_12.index t = ![0, 0, 0] := by decide +kernel

/-- The array of window 10 after the run. -/
theorem arr10 : (dats m 0 c).arrAt 10 cfg0.N = headN (aX m c) (aG m c) (m ((c : Thread nD τ).loc main_arg2)) (m ((c : Thread nD τ).loc main_arg3)) (m ((c : Thread nD τ).loc main_arg8)) := by
  refine (dats m 0 c).arrAt_eq_of_covers 10 _ (by decide +kernel) fun t hf y => ?_
  blk_simp
  rw [after0_10, o10]
  refine (pt10 m c t y).trans ?_
  blk_ext [idx10 t]

/-- The array of window 11 after the run. -/
theorem arr11 : (dats m 0 c).arrAt 11 cfg0.N = headN (aX m c) (aG m c) (m ((c : Thread nD τ).loc main_arg4)) (m ((c : Thread nD τ).loc main_arg5)) (m ((c : Thread nD τ).loc main_arg9)) := by
  refine (dats m 0 c).arrAt_eq_of_covers 11 _ (by decide +kernel) fun t hf y => ?_
  blk_simp
  rw [after0_11, o11]
  refine (pt11 m c t y).trans ?_
  blk_ext [idx11 t]

/-- The array of window 12 after the run. -/
theorem arr12 : (dats m 0 c).arrAt 12 cfg0.N = headV (aX m c) (aG m c) (m ((c : Thread nD τ).loc main_arg6)) (m ((c : Thread nD τ).loc main_arg7)) := by
  refine (dats m 0 c).arrAt_eq_of_covers 12 _ (by decide +kernel) fun t hf y => ?_
  blk_simp
  rw [after0_12, o12]
  refine (pt12 m c t y).trans ?_
  blk_ext [idx12 t]

/-- The array of window 13 after the run. -/
theorem arr13 : (dats m 0 c).arrAt 13 cfg0.N = codesA (aX m c) (aG m c) := by
  refine (dats m 0 c).arrAt_eq_of_covers 13 _ (by decide +kernel) fun t hf y => ?_
  blk_simp
  rw [after0_13, o13]
  refine (pt13 m c t y).trans ?_
  blk_ext [idx13 t]

/-- The array of window 14 after the run. -/
theorem arr14 : (dats m 0 c).arrAt 14 cfg0.N = scalesA (aX m c) (aG m c) := by
  refine (dats m 0 c).arrAt_eq_of_covers 14 _ (by decide +kernel) fun t hf y => ?_
  blk_simp
  rw [after0_14, o14]
  refine (pt14 m c t y).trans ?_
  blk_ext [idx14 t]

/-- The run ends with the five results at these values and the arguments as they were. -/
theorem run : θ_run defs (onTc (τ := τ) (main (F := Ideal))) ⟨m, fun _ => 0, ρ⟩ (fun r => ∀ c : Dev nD,
      r.2.mem ((c : Thread nD τ).loc main_v7_0) = headN (aX m c) (aG m c) (m ((c : Thread nD τ).loc main_arg2)) (m ((c : Thread nD τ).loc main_arg3)) (m ((c : Thread nD τ).loc main_arg8))
      ∧ r.2.mem ((c : Thread nD τ).loc main_v7_1) = headN (aX m c) (aG m c) (m ((c : Thread nD τ).loc main_arg4)) (m ((c : Thread nD τ).loc main_arg5)) (m ((c : Thread nD τ).loc main_arg9))
      ∧ r.2.mem ((c : Thread nD τ).loc main_v7_2) = headV (aX m c) (aG m c) (m ((c : Thread nD τ).loc main_arg6)) (m ((c : Thread nD τ).loc main_arg7))
      ∧ r.2.mem ((c : Thread nD τ).loc main_v7_3) = codesA (aX m c) (aG m c)
      ∧ r.2.mem ((c : Thread nD τ).loc main_v7_4) = scalesA (aX m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨((h c).1 10).trans (arr10 m c),
    ((h c).1 11).trans (arr11 m c),
    ((h c).1 12).trans (arr12 m c),
    ((h c).1 13).trans (arr13 m c),
    ((h c).1 14).trans (arr14 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

end Cert.ReferenceIdeal.V
-- ==== Proof.V.KVal.lean ====
/- The kernel's rows over the extended reals: the codes and scales it computes are those of `Cert.Row`. -/
module

public import proofs.«01_k».proof.Proof.K.Trip3
public import proofs.«01_k».proof.Proof.V.Head
public import Idealize.ShloMosaic.Lib.Pointwise

@[expose] public section

set_option maxRecDepth 16384

noncomputable section

namespace Cert.KernelIdeal.V

open Idealize.ShloMosaic
open Cert.KernelIdeal Cert.Row

variable (x : Vec Ideal S1024x4096 .bf16) (g : Vec Ideal S1x4096 .f32)

/-- A row of a block. -/
def XR (R : ℕ) : ℕ → EReal := fun c => x (Gen.ix2 (R := 1024) (C := 4096) (by decide) (by decide) R c)
/-- The gain. -/
def GR : ℕ → EReal := fun c => g (Gen.ix2 (R := 1) (C := 4096) (by decide) (by decide) 0 c)

/-- A window of the input at an index. -/
theorem xw_apply (r c : ℕ) (a : Fin 32) (b : Fin 256) : Gen.xw x r c (ix2 a b) = XR x (r + a.val) (c + b.val) := rfl
/-- A window of the gain at an index. -/
theorem gw_apply (c : ℕ) (b : Fin 256) : Gen.gw g c (ix2 0 b) = GR g (c + b.val) := rfl

/-- The sums of squares after `k` chunks. -/
theorem acc_ss (r k : ℕ) (a : Fin 32) (b : Fin 128) : (Gen.accAt x g r k).1 (ix2 a b) = kSS (XR x (r + a.val)) k b.val := by
  induction k with
  | zero =>
    pointwise [Gen.accAt]
    rfl
  | succ k ih =>
    pointwise [Gen.accAt, Gen.ssStep, Gen.xOf]
    rw [ih]
    rfl

/-- The largest magnitudes after `k` chunks. -/
theorem acc_am (r k : ℕ) (a : Fin 32) (b : Fin 128) : (Gen.accAt x g r k).2 (ix2 a b) = kAm (XR x (r + a.val)) (GR g) k b.val := by
  induction k with
  | zero =>
    pointwise [Gen.accAt]
    rfl
  | succ k ih =>
    pointwise [Gen.accAt, Gen.amStep, Gen.pOf, Gen.xOf]
    rw [ih]
    rfl

/-- The inverse root mean square of a row. -/
theorem invV_apply (r : ℕ) (a : Fin 32) : Gen.invV x g r (ix2 a 0) = kInv (XR x (r + a.val)) := by
  pointwise [Gen.invV, Gen.invOf]
  unfold kInv
  rw [← Finset.sum_congr rfl fun l _ => acc_ss x g r 16 a l]

/-- The largest normalised magnitude of a row, over 448. -/
theorem tV_apply (r : ℕ) (a : Fin 32) : Gen.tOf (Gen.accAt x g r 16).2 (Gen.invV x g r) (ix2 a 0) = kT (XR x (r + a.val)) (GR g) := by
  pointwise [Gen.tOf]
  unfold kT
  rw [invV_apply, ← Finset.fold_congr fun l _ => acc_am x g r 16 a l]

/-- A row's exponent. -/
theorem eOf_apply (t : FVec Ideal S32x1 .f32) (a : Fin 32) : Gen.eOf t (ix2 a 0) = kE (t (ix2 a 0)) := by
  pointwise [Gen.eOf]
  rfl

/-- A row's scale in its group. -/
theorem scV_apply (r : ℕ) (a : Fin 32) : Gen.scV x g r (ix2 a 0) = kSc (XR x (r + a.val)) (GR g) := by
  pointwise [Gen.scV, Gen.scOf, Gen.eV]
  rw [eOf_apply, tV_apply]
  rfl

/-- A row's multiplier in its group. -/
theorem mV_apply (r : ℕ) (a : Fin 32) : Gen.mV x g r (ix2 a 0) = kM (XR x (r + a.val)) (GR g) := by
  pointwise [Gen.mV, Gen.mOf, Gen.eV]
  rw [eOf_apply, tV_apply, invV_apply]
  rfl

/-- A row's index in its group. -/
theorem ix1_eq (R : ℕ) : Gen.ix1 (R % 32) = ix2 (⟨R % 32, Nat.mod_lt _ (by decide)⟩ : Fin 32) (0 : Fin 1) :=
  Gen.ix2_eq _ _ _ _ _ rfl rfl

/-- A row is its group's start and its place in it. -/
theorem row_of (R : ℕ) : 32 * (R / 32) + R % 32 = R := by omega

/-- The scale of row `R`. -/
theorem scAt_eq (R : ℕ) : Gen.scAt x g R = kSc (XR x R) (GR g) := by
  unfold Gen.scAt
  rw [ix1_eq, scV_apply, row_of]

/-- The multiplier of row `R`. -/
theorem mAt_eq (R : ℕ) : Gen.mAt x g R = kM (XR x R) (GR g) := by
  unfold Gen.mAt
  rw [ix1_eq, mV_apply, row_of]

/-- The code at row `R`, column `c`. -/
theorem codeAt_eq (R c : ℕ) : Gen.codeAt x g R c = kCode (XR x R) (GR g) c := by
  unfold Gen.codeAt
  pointwise [Gen.codeE, Gen.codeOf]
  rw [mAt_eq]
  rfl

/-- The stored scale of row `R`. -/
theorem scOut_eq (R : ℕ) : Gen.scOut x g R = kSc (XR x R) (GR g) := by
  have hR : R % 128 < 128 := Nat.mod_lt _ (by decide)
  have e : Gen.ixS (R % 128) hR = ix3 (0 : Fin 1) (0 : Fin 1) (⟨R % 128, hR⟩ : Fin 128) := by
    funext a; fin_cases a <;> rfl
  unfold Gen.scOut
  rw [e]
  pointwise [Gen.diagOf]
  rw [Finset.sum_eq_single (⟨R % 128, hR⟩ : Fin 128)]
  · have h : IntOp.cmpi CmpIPredicate.eq (BitVec.ofNat 32 (R % 128)) (BitVec.ofNat 32 (R % 128)) = 1#1 := by simp [IntOp.cmpi]
    rw [h]
    show Gen.scAt x g (128 * (R / 128) + R % 128) = _
    rw [Nat.div_add_mod, scAt_eq]
  · intro b _ hb
    have h : IntOp.cmpi CmpIPredicate.eq (BitVec.ofNat 32 b.val) (BitVec.ofNat 32 (R % 128)) = 0#1 := by
      have hb' : b.val ≠ R % 128 := fun h => hb (Fin.ext h)
      have hne : BitVec.ofNat 32 b.val ≠ BitVec.ofNat 32 (R % 128) := fun h => hb' (by
        have := congrArg BitVec.toNat h
        rw [BitVec.toNat_ofNat, BitVec.toNat_ofNat] at this
        have := b.isLt
        omega)
      simp [IntOp.cmpi, beq_eq_false_iff_ne.mpr hne]
    rw [h]
    rfl
  · intro h; exact absurd (Finset.mem_univ _) h

/-! ## Heads -/

/-- An element of a pair of heads. -/
theorem pairOf_apply (lo hi : FVec Ideal S512x128 .f32) (a : Fin 512) (h : Fin 2) (l : Fin 128) :
    Gen.pairOf lo hi (ix3 a h l) = if h.val % 2 = 0 then lo (ix2 a l) else hi (ix2 a l) := by
  unfold Gen.pairOf
  pointwise

variable (w : Vec Ideal S512x4096 .fp8e4m3) (s : Vec Ideal S1x512 .f32) (nw : Vec Ideal S1x128 .bf16)

/-- A weight. -/
def WR : ℕ → ℕ → EReal := fun o k => w (Gen.ix2 (R := 512) (C := 4096) (by decide) (by decide) o k)
/-- The column scales. -/
def SR : ℕ → EReal := fun o => s (Gen.ix2 (R := 1) (C := 512) (by decide) (by decide) 0 o)
/-- A head's gain. -/
def NR : ℕ → EReal := fun l => nw (Gen.ix2 (R := 1) (C := 128) (by decide) (by decide) 0 l)

/-- A product's element is a sum over 4096. -/
theorem accOf_apply (a w : Vec Ideal S512x4096 .fp8e4m3) (i j : Fin 512) : Gen.accOf a w (ix2 i j) = ∑ k : Fin 4096, a (ix2 i k) * w (ix2 j k) := by
  pointwise [Gen.accOf]

/-- An element of a weight. -/
theorem WR_apply (j : Fin 512) (k : Fin 4096) : w (ix2 j k) = WR w j k := (congrArg w (Gen.ix2_eq _ _ _ _ _ rfl rfl)).symm
/-- An element of a head's gain. -/
theorem NR_apply (k : Fin 128) : nw (ix2 0 k) = NR nw k := (congrArg nw (Gen.ix2_eq _ _ _ _ _ rfl rfl)).symm

/-- A head as it is. -/
theorem yV_apply (base c : ℕ) (hc : c + 128 ≤ 512) (hsl : S512x512.Slices ![0, c] S512x128) (a : Fin 512) (l : Fin 128) :
    Gen.yV x g w s base c hsl (ix2 a l) = kY (kCode (XR x (base + a.val)) (GR g)) (kSc (XR x (base + a.val)) (GR g)) (WR w) (SR s) (c + l.val) := by
  have hl := l.isLt
  pointwise [Gen.yV, Gen.headY]
  rw [accOf_apply]
  have e1 : ∀ k : Fin 4096, Gen.codesH x g base (ix2 a k) = kCode (XR x (base + a.val)) (GR g) k := fun k => codeAt_eq x g _ _
  have e2 : Gen.hsH x g base (ix2 a l) = kSc (XR x (base + a.val)) (GR g) := scAt_eq x g _
  rw [e2]
  unfold kY
  simp only [e1, WR_apply w]
  rfl

/-- A head after its norm. -/
theorem yN_apply (base c : ℕ) (hc : c + 128 ≤ 512) (hsl : S512x512.Slices ![0, c] S512x128) (a : Fin 512) (l : Fin 128) :
    Gen.yN x g w s nw base c hsl (ix2 a l)
      = kN (kY (kCode (XR x (base + a.val)) (GR g)) (kSc (XR x (base + a.val)) (GR g)) (WR w) (SR s)) (NR nw) c l := by
  pointwise [Gen.yN, Gen.headN]
  unfold kN
  simp only [yV_apply x g w s base c hc hsl, NR_apply]

/-- An output's index in its half and pair. -/
theorem ix3_eq (y : S1024x4x128.Idx) :
    Gen.ix3 (y 0).val ((y 1).val % 2) (y 2).val (Nat.mod_lt _ (by decide)) (y 2).isLt
      = ix3 (⟨(y 0).val % 512, Nat.mod_lt _ (by decide)⟩ : Fin 512) (⟨(y 1).val % 2, Nat.mod_lt _ (by decide)⟩ : Fin 2) (⟨(y 2).val, (y 2).isLt⟩ : Fin 128) := by
  funext a; fin_cases a <;> rfl

/-- An output of un-normalised heads. -/
theorem outV_apply (a : Fin 1024) (h : Fin 4) (l : Fin 128) : Gen.outOf (Gen.pairV x g w s) (ix3 a h l)
    = kY (kCode (XR x a) (GR g)) (kSc (XR x a) (GR g)) (WR w) (SR s) (128 * h.val + l.val) := by
  have ha : 512 * (a.val / 512) + a.val % 512 = a.val := Nat.div_add_mod _ _
  unfold Gen.outOf
  rw [ix3_eq]
  show Gen.pairV x g w s (512 * (a.val / 512)) (2 * (h.val / 2)) (ix3 (⟨a.val % 512, _⟩ : Fin 512) (⟨h.val % 2, _⟩ : Fin 2) (⟨l.val, _⟩ : Fin 128)) = _
  unfold Gen.pairV
  have hh := h.isLt
  rcases (by omega : h.val = 0 ∨ h.val = 1 ∨ h.val = 2 ∨ h.val = 3) with e | e | e | e <;> simp only [e] <;> norm_num <;>
    rw [pairOf_apply] <;> norm_num <;> rw [yV_apply _ _ _ _ _ _ (by norm_num)] <;> rw [ha] <;> norm_num

/-- An output of normalised heads. -/
theorem outN_apply (a : Fin 1024) (h : Fin 4) (l : Fin 128) : Gen.outOf (Gen.pairN x g w s nw) (ix3 a h l)
    = kN (kY (kCode (XR x a) (GR g)) (kSc (XR x a) (GR g)) (WR w) (SR s)) (NR nw) (128 * h.val) l := by
  have ha : 512 * (a.val / 512) + a.val % 512 = a.val := Nat.div_add_mod _ _
  unfold Gen.outOf
  rw [ix3_eq]
  show Gen.pairN x g w s nw (512 * (a.val / 512)) (2 * (h.val / 2)) (ix3 (⟨a.val % 512, _⟩ : Fin 512) (⟨h.val % 2, _⟩ : Fin 2) (⟨l.val, _⟩ : Fin 128)) = _
  unfold Gen.pairN
  have hh := h.isLt
  rcases (by omega : h.val = 0 ∨ h.val = 1 ∨ h.val = 2 ∨ h.val = 3) with e | e | e | e <;> simp only [e] <;> norm_num <;>
    rw [pairOf_apply] <;> norm_num <;> rw [yN_apply _ _ _ _ _ _ _ (by norm_num)] <;> rw [ha]

end Cert.KernelIdeal.V
-- ==== Proof.V.KBlk.lean ====
/- What the kernel's blocks hold, as functions of the argument arrays. -/
module

public import proofs.«01_k».proof.Proof.K.KRun
public import proofs.«01_k».proof.Proof.V.KVal
public import proofs.«01_k».proof.Proof.V.Args
public import Idealize.ShloMosaic.Lib.Pipeline.ValueKit
public import Idealize.ShloMosaic.Lib.StableHlo.ReadAt

@[expose] public section

set_option maxRecDepth 16384

noncomputable section

namespace Cert.KernelIdeal.V

open Idealize.ShloMosaic Idealize.ShloMosaic.TcCoe
open Cert.KernelIdeal Cert.Row
open Cert.KernelIdeal.Gen hiding ix1 ix2 ix3

variable (x : Vec Ideal S1024x4096 .bf16) (g : Vec Ideal S1x4096 .f32) (w : Vec Ideal S512x4096 .fp8e4m3) (s : Vec Ideal S1x512 .f32) (nw : Vec Ideal S1x128 .bf16)

/-- An index whose coordinates are those of `r` and `c`, reduced into range. -/
theorem ix2_mod {R C : ℕ} (hR : 0 < R) (hC : 0 < C) (y : (⟨2, ![R, C]⟩ : Shape).Idx) (r c : ℕ) (h0 : (y 0).val = r % R) (h1 : (y 1).val = c % C) :
    Gen.ix2 hR hC r c = y := by
  funext a
  apply Fin.ext
  fin_cases a
  · exact h0.symm
  · exact h1.symm

/-- A row of a block, at an index. -/
theorem XR_eq (R : Fin 1024) (k : ℕ) : XR x R.val k = x (ix2 R (⟨k % 4096, Nat.mod_lt _ (by decide)⟩ : Fin 4096)) :=
  congrArg x (ix2_mod _ _ _ _ _ (Nat.mod_eq_of_lt R.isLt).symm rfl)
/-- The gain, at an index. -/
theorem GR_eq (k : ℕ) : GR g k = g (ix2 0 (⟨k % 4096, Nat.mod_lt _ (by decide)⟩ : Fin 4096)) :=
  congrArg g (ix2_mod _ _ _ _ _ rfl rfl)
/-- A weight, at an index. -/
theorem WR_eq (o k : ℕ) : WR w o k = w (ix2 (⟨o % 512, Nat.mod_lt _ (by decide)⟩ : Fin 512) (⟨k % 4096, Nat.mod_lt _ (by decide)⟩ : Fin 4096)) :=
  congrArg w (ix2_mod _ _ _ _ _ rfl rfl)
/-- The column scales, at an index. -/
theorem SR_eq (o : ℕ) : SR s o = s (ix2 0 (⟨o % 512, Nat.mod_lt _ (by decide)⟩ : Fin 512)) :=
  congrArg s (ix2_mod _ _ _ _ _ rfl rfl)
/-- A head's gain, at an index. -/
theorem NR_eq (l : ℕ) : NR nw l = nw (ix2 0 (⟨l % 128, Nat.mod_lt _ (by decide)⟩ : Fin 128)) :=
  congrArg nw (ix2_mod _ _ _ _ _ rfl rfl)

/-- The widened gain is the gain. -/
theorem gOf_apply (v : Vec Ideal S1x4096 .bf16) (y : S1x4096.Idx) : gOf v y = v y := rfl

variable (m : (ℓ : Loc nD τ sig) → Buf (Elt Ideal) ℓ) (c : Dev nD)

/-- The input. -/
abbrev aX : FVec Ideal S8x4096x4096 .bf16 := m ((c : Thread nD τ).loc main_arg0)
/-- The gain. -/
abbrev aG : FVec Ideal S4096 .bf16 := m ((c : Thread nD τ).loc main_arg1)

/-- There are 32 points. -/
theorem lt_pt (t : Fin cfg0.N) : t.val < 32 := lt_of_lt_of_eq t.isLt N_0

/-- Where the block of window 0 starts, in blocks. -/
theorem idx0 : ∀ t : Fin cfg0.N, win0_0.index t = ![t.val, 0] := by decide +kernel
/-- Where the block of window 1 starts, in blocks. -/
theorem idx1 : ∀ t : Fin cfg0.N, win0_1.index t = ![0, 0] := by decide +kernel

/-- The input's block at an index. -/
theorem in0 (t : Fin cfg0.N) (R : Fin 1024) (k : Fin 4096) : (iblk m c 0 t : FVec Ideal S1024x4096 .bf16) (ix2 R k)
    = aX m c (ix3 (⟨(1024 * t.val + R.val) / 4096, by have := lt_pt t; omega⟩ : Fin 8) (⟨(1024 * t.val + R.val) % 4096, by omega⟩ : Fin 4096) k) := by
  have e : (1024 * t.val + R.val) = t.val * 1024 + R.val := by omega
  simp only [e]
  blk_simp [iblk]
  entry_read
  pointwise
  blk_ext [iblk, idx0 t]

/-- The gain's block at an index. -/
theorem in1 (t : Fin cfg0.N) (k : Fin 4096) : (iblk m c 1 t : FVec Ideal S1x4096 .bf16) (ix2 0 k) = aG m c (ix1 k) := by
  blk_simp [iblk]
  entry_read
  pointwise
  blk_ext [iblk, idx1 t]

/-- A row of the input's block is a row of the input. -/
theorem row0 (t : Fin cfg0.N) (R : Fin 1024) : XR (iblk m c 0 t : FVec Ideal S1024x4096 .bf16) R.val = rowA (aX m c) (1024 * t.val + R.val) := by
  funext k
  have ht := lt_pt t
  rw [XR_eq, in0]
  unfold rowA
  have : (1024 * t.val + R.val) / 4096 % 8 = (1024 * t.val + R.val) / 4096 := Nat.mod_eq_of_lt (by omega)
  simp only [this]

/-- The gain's block is the gain. -/
theorem row1 : GR (K.gK m c) = gainA (aG m c) := by
  funext k
  rw [GR_eq]
  unfold gainA K.gK
  exact (gOf_apply _ _).trans (in1 m c K.t0 _)

/-- Where the block of window 2 starts, in blocks. -/
theorem idx2 : ∀ t : Fin cfg0.N, win0_2.index t = ![0, 0] := by decide +kernel

/-- The weight in window 2 is its argument. -/
theorem mat2 (t : Fin cfg0.N) : WR (iblk m c 2 t : FVec Ideal S512x4096 .fp8e4m3) = matA (m ((c : Thread nD τ).loc main_arg2) : FVec Ideal S512x4096 .fp8e4m3) := by
  funext o k
  rw [WR_eq]
  unfold matA
  blk_simp [iblk]
  rw [V_main_arg2]
  blk_ext [iblk, idx2 t]

/-- Where the block of window 3 starts, in blocks. -/
theorem idx3 : ∀ t : Fin cfg0.N, win0_3.index t = ![0, 0] := by decide +kernel

/-- The weight in window 3 is its argument. -/
theorem mat3 (t : Fin cfg0.N) : WR (iblk m c 3 t : FVec Ideal S512x4096 .fp8e4m3) = matA (m ((c : Thread nD τ).loc main_arg4) : FVec Ideal S512x4096 .fp8e4m3) := by
  funext o k
  rw [WR_eq]
  unfold matA
  blk_simp [iblk]
  rw [V_main_arg4]
  blk_ext [iblk, idx3 t]

/-- Where the block of window 4 starts, in blocks. -/
theorem idx4 : ∀ t : Fin cfg0.N, win0_4.index t = ![0, 0] := by decide +kernel

/-- The weight in window 4 is its argument. -/
theorem mat4 (t : Fin cfg0.N) : WR (iblk m c 4 t : FVec Ideal S512x4096 .fp8e4m3) = matA (m ((c : Thread nD τ).loc main_arg6) : FVec Ideal S512x4096 .fp8e4m3) := by
  funext o k
  rw [WR_eq]
  unfold matA
  blk_simp [iblk]
  rw [V_main_arg6]
  blk_ext [iblk, idx4 t]

/-- Where the block of window 5 starts, in blocks. -/
theorem idx5 : ∀ t : Fin cfg0.N, win0_5.index t = ![0, 0] := by decide +kernel

/-- The column scales in window 5 are their argument. -/
theorem scl5 (t : Fin cfg0.N) : SR (iblk m c 5 t : FVec Ideal S1x512 .f32) = sclA (m ((c : Thread nD τ).loc main_arg3) : FVec Ideal S512 .f32) := by
  funext o
  rw [SR_eq]
  unfold sclA
  blk_simp [iblk]
  entry_read
  pointwise
  blk_ext [iblk, idx5 t]

/-- Where the block of window 6 starts, in blocks. -/
theorem idx6 : ∀ t : Fin cfg0.N, win0_6.index t = ![0, 0] := by decide +kernel

/-- The column scales in window 6 are their argument. -/
theorem scl6 (t : Fin cfg0.N) : SR (iblk m c 6 t : FVec Ideal S1x512 .f32) = sclA (m ((c : Thread nD τ).loc main_arg5) : FVec Ideal S512 .f32) := by
  funext o
  rw [SR_eq]
  unfold sclA
  blk_simp [iblk]
  entry_read
  pointwise
  blk_ext [iblk, idx6 t]

/-- Where the block of window 7 starts, in blocks. -/
theorem idx7 : ∀ t : Fin cfg0.N, win0_7.index t = ![0, 0] := by decide +kernel

/-- The column scales in window 7 are their argument. -/
theorem scl7 (t : Fin cfg0.N) : SR (iblk m c 7 t : FVec Ideal S1x512 .f32) = sclA (m ((c : Thread nD τ).loc main_arg7) : FVec Ideal S512 .f32) := by
  funext o
  rw [SR_eq]
  unfold sclA
  blk_simp [iblk]
  entry_read
  pointwise
  blk_ext [iblk, idx7 t]

/-- Where the block of window 8 starts, in blocks. -/
theorem idx8 : ∀ t : Fin cfg0.N, win0_8.index t = ![0, 0] := by decide +kernel

/-- The head gain in window 8 is its argument. -/
theorem nrm8 (t : Fin cfg0.N) : NR (iblk m c 8 t : FVec Ideal S1x128 .bf16) = nrmA (m ((c : Thread nD τ).loc main_arg8) : FVec Ideal S128 .bf16) := by
  funext o
  rw [NR_eq]
  unfold nrmA
  blk_simp [iblk]
  entry_read
  pointwise
  blk_ext [iblk, idx8 t]

/-- Where the block of window 9 starts, in blocks. -/
theorem idx9 : ∀ t : Fin cfg0.N, win0_9.index t = ![0, 0] := by decide +kernel

/-- The head gain in window 9 is its argument. -/
theorem nrm9 (t : Fin cfg0.N) : NR (iblk m c 9 t : FVec Ideal S1x128 .bf16) = nrmA (m ((c : Thread nD τ).loc main_arg9) : FVec Ideal S128 .bf16) := by
  funext o
  rw [NR_eq]
  unfold nrmA
  blk_simp [iblk]
  entry_read
  pointwise
  blk_ext [iblk, idx9 t]

end Cert.KernelIdeal.V
-- ==== Proof.V.KArr.lean ====
/- The kernel's arrays after its run, as functions of the argument arrays. -/
module

public import proofs.«01_k».proof.Proof.V.KBlk

@[expose] public section

set_option maxRecDepth 16384

noncomputable section

namespace Cert.KernelIdeal.V

open Idealize.ShloMosaic Idealize.ShloMosaic.TcCoe
open Cert.KernelIdeal Cert.Row
open Cert.KernelIdeal.Gen hiding ix1 ix2 ix3

variable (m : (ℓ : Loc nD τ sig) → Buf (Elt Ideal) ℓ) (ρ : Dev nD → PrngReg) (c : Dev nD)

/-- Every row of the input is in range. -/
def AllIn : Prop := ∀ R : ℕ, R < 32768 → InRange (rowA (aX m c) R) (gainA (aG m c))

/-- A row of a block is in range when all rows are. -/
theorem inAt (t : Fin cfg0.N) (a : Fin 1024) (hR : AllIn m c) : InRange (rowA (aX m c) (1024 * t.val + a.val)) (gainA (aG m c)) :=
  hR _ (by have := lt_pt t; omega)

/-- The codes of a row of a block are the reference's. -/
theorem code13 (t : Fin cfg0.N) (a : Fin 1024) (hR : AllIn m c) : kCode (XR (iblk m c 0 t) a.val) (GR (K.gK m c))
    = rCode (rowA (aX m c) (1024 * t.val + a.val)) (gainA (aG m c)) := by
  funext k
  rw [row0, row1, kCode_eq _ _ (inAt m c t a hR)]

/-- The scale of a row of a block is the reference's. -/
theorem scale14 (t : Fin cfg0.N) (a : Fin 1024) (hR : AllIn m c) : kSc (XR (iblk m c 0 t) a.val) (GR (K.gK m c))
    = rSc (rowA (aX m c) (1024 * t.val + a.val)) (gainA (aG m c)) := by
  rw [row0, row1, kSc_eq _ _ (inAt m c t a hR)]

/-- Where the block of window 13 starts, in blocks. -/
theorem idx13 : ∀ t : Fin cfg0.N, win0_13.index t = ![t.val, 0] := by decide +kernel
/-- Where the block of window 14 starts, in blocks. -/
theorem idx14 : ∀ t : Fin cfg0.N, win0_14.index t = ![t.val / 4, 0, t.val % 4] := by decide +kernel
/-- Where the block of window 10 starts, in blocks. -/
theorem idx10 : ∀ t : Fin cfg0.N, win0_10.index t = ![t.val, 0, 0] := by decide +kernel
/-- Where the block of window 11 starts, in blocks. -/
theorem idx11 : ∀ t : Fin cfg0.N, win0_11.index t = ![t.val, 0, 0] := by decide +kernel
/-- Where the block of window 12 starts, in blocks. -/
theorem idx12 : ∀ t : Fin cfg0.N, win0_12.index t = ![t.val, 0, 0] := by decide +kernel

/-- The query heads, element by element. -/
theorem pt10 (t : Fin cfg0.N) (hR : AllIn m c) (a : Fin 1024) (h : Fin 4) (l : Fin 128) : K.qB m c t (ix3 a h l)
    = headN (aX m c) (aG m c) (m ((c : Thread nD τ).loc main_arg2)) (m ((c : Thread nD τ).loc main_arg3)) (m ((c : Thread nD τ).loc main_arg8))
      (ix3 (⟨1024 * t.val + a.val, by have := lt_pt t; omega⟩ : Fin 32768) h l) := by
  unfold K.qB
  rw [outN_apply, code13 m c t a hR, scale14 m c t a hR, mat2, scl5, nrm8]
  rfl

/-- The key heads, element by element. -/
theorem pt11 (t : Fin cfg0.N) (hR : AllIn m c) (a : Fin 1024) (h : Fin 4) (l : Fin 128) : K.kB m c t (ix3 a h l)
    = headN (aX m c) (aG m c) (m ((c : Thread nD τ).loc main_arg4)) (m ((c : Thread nD τ).loc main_arg5)) (m ((c : Thread nD τ).loc main_arg9))
      (ix3 (⟨1024 * t.val + a.val, by have := lt_pt t; omega⟩ : Fin 32768) h l) := by
  unfold K.kB
  rw [outN_apply, code13 m c t a hR, scale14 m c t a hR, mat3, scl6, nrm9]
  rfl

/-- The value heads, element by element. -/
theorem pt12 (t : Fin cfg0.N) (hR : AllIn m c) (a : Fin 1024) (h : Fin 4) (l : Fin 128) : K.vB m c t (ix3 a h l)
    = headV (aX m c) (aG m c) (m ((c : Thread nD τ).loc main_arg6)) (m ((c : Thread nD τ).loc main_arg7))
      (ix3 (⟨1024 * t.val + a.val, by have := lt_pt t; omega⟩ : Fin 32768) h l) := by
  unfold K.vB
  rw [outV_apply, code13 m c t a hR, scale14 m c t a hR, mat4, scl7]
  rfl

/-- The codes, element by element. -/
theorem pt13 (t : Fin cfg0.N) (hR : AllIn m c) (a : Fin 1024) (k : Fin 4096) : K.cB m c t (ix2 a k)
    = codesA (aX m c) (aG m c) (ix2 (⟨1024 * t.val + a.val, by have := lt_pt t; omega⟩ : Fin 32768) k) := by
  unfold K.cB codesB
  refine (codeAt_eq _ _ a.val k.val).trans ?_
  rw [code13 m c t a hR]
  rfl

/-- The scales, element by element. -/
theorem pt14 (t : Fin cfg0.N) (hR : AllIn m c) (a : Fin 1024) : K.sB m c t (ix3 0 0 a)
    = scalesA (aX m c) (aG m c) (ix3 (⟨t.val / 4, by have := lt_pt t; omega⟩ : Fin 8) (0 : Fin 1) (⟨1024 * (t.val % 4) + a.val, by omega⟩ : Fin 4096)) := by
  unfold K.sB scalesB
  refine (scOut_eq _ _ a.val).trans ?_
  rw [scale14 m c t a hR]
  show _ = rSc (rowA (aX m c) (4096 * (t.val / 4) + (1024 * (t.val % 4) + a.val))) _
  have e : 4096 * (t.val / 4) + (1024 * (t.val % 4) + a.val) = 1024 * t.val + a.val := by omega
  rw [e]

/-- The array of window 10 after the run. -/
theorem arr10 (hR : AllIn m c) : (K.dats m 0 c).arrAt 10 cfg0.N = headN (aX m c) (aG m c) (m ((c : Thread nD τ).loc main_arg2)) (m ((c : Thread nD τ).loc main_arg3)) (m ((c : Thread nD τ).loc main_arg8)) := by
  refine (K.dats m 0 c).arrAt_eq_of_covers 10 _ (by decide +kernel) fun t hf y => ?_
  blk_simp
  rw [K.after0_10]
  obtain ⟨a, h, l, rfl⟩ : ∃ (a : Fin 1024) (h : Fin 4) (l : Fin 128), (y : S1024x4x128.Idx) = ix3 a h l := ⟨y 0, y 1, y 2, ValueIdx.eq_ix3 y⟩
  refine (pt10 m c t hR a h l).trans ?_
  blk_ext [idx10 t]

/-- The array of window 11 after the run. -/
theorem arr11 (hR : AllIn m c) : (K.dats m 0 c).arrAt 11 cfg0.N = headN (aX m c) (aG m c) (m ((c : Thread nD τ).loc main_arg4)) (m ((c : Thread nD τ).loc main_arg5)) (m ((c : Thread nD τ).loc main_arg9)) := by
  refine (K.dats m 0 c).arrAt_eq_of_covers 11 _ (by decide +kernel) fun t hf y => ?_
  blk_simp
  rw [K.after0_11]
  obtain ⟨a, h, l, rfl⟩ : ∃ (a : Fin 1024) (h : Fin 4) (l : Fin 128), (y : S1024x4x128.Idx) = ix3 a h l := ⟨y 0, y 1, y 2, ValueIdx.eq_ix3 y⟩
  refine (pt11 m c t hR a h l).trans ?_
  blk_ext [idx11 t]

/-- The array of window 12 after the run. -/
theorem arr12 (hR : AllIn m c) : (K.dats m 0 c).arrAt 12 cfg0.N = headV (aX m c) (aG m c) (m ((c : Thread nD τ).loc main_arg6)) (m ((c : Thread nD τ).loc main_arg7)) := by
  refine (K.dats m 0 c).arrAt_eq_of_covers 12 _ (by decide +kernel) fun t hf y => ?_
  blk_simp
  rw [K.after0_12]
  obtain ⟨a, h, l, rfl⟩ : ∃ (a : Fin 1024) (h : Fin 4) (l : Fin 128), (y : S1024x4x128.Idx) = ix3 a h l := ⟨y 0, y 1, y 2, ValueIdx.eq_ix3 y⟩
  refine (pt12 m c t hR a h l).trans ?_
  blk_ext [idx12 t]

/-- The array of window 13 after the run. -/
theorem arr13 (hR : AllIn m c) : (K.dats m 0 c).arrAt 13 cfg0.N = codesA (aX m c) (aG m c) := by
  refine (K.dats m 0 c).arrAt_eq_of_covers 13 _ (by decide +kernel) fun t hf y => ?_
  blk_simp
  rw [K.after0_13]
  obtain ⟨a, k, rfl⟩ : ∃ (a : Fin 1024) (k : Fin 4096), (y : S1024x4096.Idx) = ix2 a k := ⟨y 0, y 1, ValueIdx.eq_ix2 y⟩
  refine (pt13 m c t hR a k).trans ?_
  blk_ext [idx13 t]

/-- The array of window 14 after the run. -/
theorem arr14 (hR : AllIn m c) : (K.dats m 0 c).arrAt 14 cfg0.N = scalesA (aX m c) (aG m c) := by
  refine (K.dats m 0 c).arrAt_eq_of_covers 14 _ (by decide +kernel) fun t hf y => ?_
  blk_simp
  rw [K.after0_14]
  obtain ⟨i, j, a, rfl⟩ : ∃ (i : Fin 1) (j : Fin 1) (a : Fin 1024), (y : S1x1x1024.Idx) = ix3 i j a := ⟨y 0, y 1, y 2, ValueIdx.eq_ix3 y⟩
  obtain rfl : i = 0 := Subsingleton.elim _ _
  obtain rfl : j = 0 := Subsingleton.elim _ _
  refine (pt14 m c t hR a).trans ?_
  blk_ext [idx14 t]

/-- The run ends with the five results at these values and the arguments as they were. -/
theorem run (hR : ∀ c, AllIn m c) : θ_run defs (onTc (τ := τ) (main (F := Ideal))) ⟨m, fun _ => 0, ρ⟩ (fun r => ∀ c : Dev nD,
      r.2.mem ((c : Thread nD τ).loc main_v7_0) = headN (aX m c) (aG m c) (m ((c : Thread nD τ).loc main_arg2)) (m ((c : Thread nD τ).loc main_arg3)) (m ((c : Thread nD τ).loc main_arg8))
      ∧ r.2.mem ((c : Thread nD τ).loc main_v7_1) = headN (aX m c) (aG m c) (m ((c : Thread nD τ).loc main_arg4)) (m ((c : Thread nD τ).loc main_arg5)) (m ((c : Thread nD τ).loc main_arg9))
      ∧ r.2.mem ((c : Thread nD τ).loc main_v7_2) = headV (aX m c) (aG m c) (m ((c : Thread nD τ).loc main_arg6)) (m ((c : Thread nD τ).loc main_arg7))
      ∧ r.2.mem ((c : Thread nD τ).loc main_v7_3) = codesA (aX m c) (aG m c)
      ∧ r.2.mem ((c : Thread nD τ).loc main_v7_4) = scalesA (aX m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨((h c).1 10).trans (arr10 m c (hR c)),
    ((h c).1 11).trans (arr11 m c (hR c)),
    ((h c).1 12).trans (arr12 m c (hR c)),
    ((h c).1 13).trans (arr13 m c (hR c)),
    ((h c).1 14).trans (arr14 m c (hR c)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((K.dats m 0 c).arrAt_in 2 rfl _).trans ((K.A_eq m c 2).trans (V_main_arg2 m c))),
    ((h c).2 main_arg3 (Pipeline.mem_restRefs_of main_arg3 (by decide) (by decide))).trans (V_main_arg3 m c),
    ((h c).1 3).trans (((K.dats m 0 c).arrAt_in 3 rfl _).trans ((K.A_eq m c 3).trans (V_main_arg4 m c))),
    ((h c).2 main_arg5 (Pipeline.mem_restRefs_of main_arg5 (by decide) (by decide))).trans (V_main_arg5 m c),
    ((h c).1 4).trans (((K.dats m 0 c).arrAt_in 4 rfl _).trans ((K.A_eq m c 4).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (K.run_main m ρ)

end Cert.KernelIdeal.V
-- ==== Proof.V.Pre.lean ====
/- What the precondition says of a row of the input. -/
module

public import proofs.«01_k».proof.Pre_in_range
public import proofs.«01_k».proof.Proof.V.Args
public import Idealize.ShloMosaic.Lib.Pointwise

@[expose] public section

set_option maxRecDepth 16384

noncomputable section

namespace Cert.Pre_in_range.V

open Idealize.ShloMosaic
open Cert.Pre_in_range Cert.Pre_in_range.Facts Cert.Row

variable [Facts]
variable (x : FVec Ideal S8x4096x4096 .bf16) (g : FVec Ideal S4096 .bf16)

/-- The sum of squares of each row. -/
def ss : FVec Ideal S8x4096 .f32 :=
  Host.reduceAdd (mulf (extf .f32 x bitsLt_bf16_f32) (extf .f32 x bitsLt_bf16_f32)) (constant S_ .f32 0x00000000#32 : FVec Ideal S_ .f32) reducesTo_S8x4096x4096_S8x4096_d2 h_S_

/-- The normalised input. -/
def nrm : FVec Ideal S8x4096x4096 .f32 :=
  mulf (mulf (extf .f32 x bitsLt_bf16_f32) (broadcastInDim S8x4096x4096 ![0, 1, 2] bcast_S8x4096x1_S8x4096x4096_0_1_2
      (Host.rsqrt (addf (Host.divf (broadcastInDim S8x4096x1 ![0, 1] bcast_S8x4096_S8x4096x1_0_1 (ss x)) (broadcastInDim S8x4096x1 ![] bcast_S_S8x4096x1 (constant S_ .f32 0x45800000#32 : FVec Ideal S_ .f32)))
        (broadcastInDim S8x4096x1 ![] bcast_S_S8x4096x1 (constant S_ .f32 0x358637BD#32 : FVec Ideal S_ .f32))))))
    (broadcastInDim S8x4096x4096 ![0, 1, 2] bcast_S1x1x4096_S8x4096x4096_0_1_2 (broadcastInDim S1x1x4096 ![2] bcast_S4096_S1x1x4096_2 (extf .f32 g bitsLt_bf16_f32)))

/-- The largest magnitude of each row. -/
def top : FVec Ideal S8x4096 .f32 :=
  Host.reduce FloatOps.maximumf (Host.absf (nrm x g)) (constant S_ .f32 0xFF800000#32 : FVec Ideal S_ .f32) reducesTo_S8x4096x4096_S8x4096_d2 h_S_

/-- The three tests of it. -/
def tests (v : FVec Ideal S8x4096 .f32) : IVec S8x4096 1 :=
  ori (cmpf .oeq v (broadcastInDim S8x4096 ![] bcast_S_S8x4096 (constant S_ .f32 0x00000000#32 : FVec Ideal S_ .f32)))
    (andi (cmpf .oge v (broadcastInDim S8x4096 ![] bcast_S_S8x4096 (constant S_ .f32 0x09800000#32 : FVec Ideal S_ .f32)))
      (cmpf .olt v (broadcastInDim S8x4096 ![] bcast_S_S8x4096 (constant S_ .f32 0x7F000000#32 : FVec Ideal S_ .f32))))

/-- The precondition is the tests of the largest magnitudes. -/
theorem fn_eq (w2 : FVec Ideal S512x4096 .fp8e4m3) (s3 : FVec Ideal S512 .f32) (w4 : FVec Ideal S512x4096 .fp8e4m3) (s5 : FVec Ideal S512 .f32) (w6 : FVec Ideal S512x4096 .fp8e4m3) (s7 : FVec Ideal S512 .f32) (n8 n9 : FVec Ideal S128 .bf16) :
    fn (F := Ideal) x g w2 s3 w4 s5 w6 s7 n8 n9 = tests (top x g) := by
  unfold fn fn_part1 tests top nrm ss
  rfl

/-- The row that position `i`, `j` of the result is of. -/
abbrev R (i : Fin 8) (j : Fin 4096) : ℕ := 4096 * i.val + j.val

/-- An element of a row. -/
theorem rowA_at (i : Fin 8) (j k : Fin 4096) : rowA x (R i j) k.val = x (ix3 i j k) := by
  unfold rowA
  congr 2
  · exact Fin.ext (by show (4096 * i.val + j.val) / 4096 % 8 = i.val; omega)
  · exact Fin.ext (by show (4096 * i.val + j.val) % 4096 = j.val; omega)
  · exact Fin.ext (Nat.mod_eq_of_lt k.isLt)

/-- An element of the gain. -/
theorem gainA_at (k : Fin 4096) : gainA g k.val = g (ix1 k) := by
  unfold gainA
  congr 2
  exact Fin.ext (Nat.mod_eq_of_lt k.isLt)

/-- A row's sum of squares. -/
theorem ss_apply (i : Fin 8) (j : Fin 4096) : ss x (ix2 i j) = ∑ k : Fin 4096, rowA x (R i j) k.val * rowA x (R i j) k.val := by
  pointwise [ss]
  simp only [rowA_at]

/-- A normalised element. -/
theorem nrm_apply (i : Fin 8) (j k : Fin 4096) : nrm x g (ix3 i j k) = rH (rowA x (R i j)) (gainA g) k := by
  pointwise [nrm]
  rw [ss_apply]
  unfold rH rInv
  rw [rowA_at, gainA_at]

/-- The largest element of each row. -/
theorem rowMaxH (v : FVec Ideal S8x4096x4096 .f32) (i : Fin 8) (j : Fin 4096) :
    Host.reduce FloatOps.maximumf v (constant S_ .f32 0xFF800000#32 : FVec Ideal S_ .f32) reducesTo_S8x4096x4096_S8x4096_d2 h_S_ (ix2 i j)
      = Finset.fold max (Ideal.ofBits .f32 0xFF800000#32) (fun k : Fin 4096 => v (ix3 i j k)) Finset.univ := by
  refine (Host.reduce_eq_fold _ v _ _ _ (ix2 i j)).trans ?_
  exact (reducesTo_S8x4096x4096_S8x4096_d2).fold_fiber_r3_a2 (ix2 i j) _ _ v

/-- A row's largest magnitude. -/
theorem top_apply (i : Fin 8) (j : Fin 4096) : top x g (ix2 i j) = rA (rowA x (R i j)) (gainA g) := by
  unfold top
  rw [rowMaxH]
  unfold rA
  refine Finset.fold_congr fun k _ => ?_
  rw [← nrm_apply]
  rfl

/-- What passing the tests says. -/
theorem tests_apply (v : FVec Ideal S8x4096 .f32) (y : S8x4096.Idx) (h : tests v y = 1#1) :
    v y = 0 ∨ (Ideal.ofBits .f32 0x09800000#32 ≤ v y ∧ v y < Ideal.ofBits .f32 0x7F000000#32) := by
  revert h
  pointwise [tests]
  by_cases a : v y = 0 <;> by_cases b : Ideal.ofBits FTy.f32 0x09800000#32 ≤ v y <;> by_cases c : v y < Ideal.ofBits FTy.f32 0x7F000000#32 <;>
    simp [a, b, c, IntOp.ori, IntOp.andi]

/-- The precondition puts every row in range. -/
theorem inRange (w2 : FVec Ideal S512x4096 .fp8e4m3) (s3 : FVec Ideal S512 .f32) (w4 : FVec Ideal S512x4096 .fp8e4m3) (s5 : FVec Ideal S512 .f32) (w6 : FVec Ideal S512x4096 .fp8e4m3) (s7 : FVec Ideal S512 .f32) (n8 n9 : FVec Ideal S128 .bf16)
    (h : fn (F := Ideal) x g w2 s3 w4 s5 w6 s7 n8 n9 = fun _ => 1#1) (r : ℕ) (hr : r < 32768) : InRange (rowA x r) (gainA g) := by
  rw [fn_eq] at h
  have e : R (⟨r / 4096, by omega⟩ : Fin 8) (⟨r % 4096, by omega⟩ : Fin 4096) = r := Nat.div_add_mod r 4096
  have := tests_apply (top x g) (ix2 (⟨r / 4096, by omega⟩ : Fin 8) (⟨r % 4096, by omega⟩ : Fin 4096)) (congrFun h _)
  rw [top_apply, e] at this
  exact this

end Cert.Pre_in_range.V
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.K.KRun
public import proofs.«01_k».proof.Proof.V.RArr
public import proofs.«01_k».proof.Proof.V.KArr
public import proofs.«01_k».proof.Proof.V.Pre
public import Idealize.ShloMosaic.Lib.Bf16Pair
public import Idealize.ShloMosaic.Adequacy
public import Idealize.ShloMosaic.Init

@[expose] public section

noncomputable section

namespace Cert.Proof

open Idealize.ShloMosaic Idealize.SL.Sem Idealize.ShloMosaic.TcCoe

/-- The kernel and the reference end with equal results: each of the five arrays is one function of the arguments. -/
theorem equal [Cert.Pre_in_range.Facts] : algebraic_KernelIdeal_ReferenceIdeal_pre_in_range := by
  intro m g m' g' hpre hargs
  have hR : ∀ c, Cert.KernelIdeal.V.AllIn m c := fun c r hr => Cert.Pre_in_range.V.inRange _ _ _ _ _ _ _ _ _ _ (hpre c) r hr
  refine ⟨_, _, _, _, _, Cert.KernelIdeal.V.run m g hR, ?_⟩
  refine (θ_run _ _ _).mono (fun r h c => ?_) (Cert.ReferenceIdeal.V.run m' g')
  obtain ⟨h0, h1, h2, h3, h4, hk⟩ := h c
  obtain ⟨a0, a1, a2, a3, a4, a5, a6, a7, a8, a9⟩ := hargs c
  refine ⟨h0.trans ?_, h1.trans ?_, h2.trans ?_, h3.trans ?_, h4.trans ?_, hk⟩
  · exact congr (congr (congr (congr (congrArg _ a0) a1) a2) a3) a8
  · exact congr (congr (congr (congr (congrArg _ a0) a1) a4) a5) a9
  · exact congr (congr (congr (congrArg _ a0) a1) a6) a7
  · exact congr (congrArg _ a0) a1
  · exact congr (congrArg _ a0) a1

/-- Everything claimed. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ,
  fun m ρ _ => Cert.KernelIdeal.K.frame m ρ,
  fun m ρ _ => Cert.KernelIdeal.K.frame m ρ,
  fun m ρ _ => Cert.ReferenceIdeal.Gen.frame m ρ,
  fun m ρ _ => Cert.ReferenceIdeal.Gen.frame m ρ,
  ⟨IdealRules.bf16_pair.packStatement _, IdealRules.bf16_pair.statement _ _⟩,
  equal⟩

end Cert.Proof

end
